-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x1024 : Shape := ⟨2, ![64, 1024]⟩
abbrev S1024x100000 : Shape := ⟨2, ![1024, 100000]⟩
abbrev S100000 : Shape := ⟨1, ![100000]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x100000 : S_.BroadcastsInDim S1024x100000 (![] : Fin 0 → Fin S1024x100000.rank)
  reducesTo_S1024x100000_S_d0_1 : S1024x100000.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S64x1024 .f32) (main_arg1 : FVec F S1024x100000 .f32) (main_arg2 : FVec F S100000 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x100000 .f32 := Host.absf main_arg1
  let main_cst_0 : FVec F S_ .f32 := constant S_ .f32 0x7F800000#32
  let main_v5 : FVec F S1024x100000 .f32 := broadcastInDim S1024x100000 ![] bcast_S_S1024x100000 main_cst_0
  let main_v6 : IVec S1024x100000 1 := cmpf .olt main_v4 main_v5
  let main_c_1 : IVec S_ 1 := constantI S_ 1 1#1
  let main_v7 : IVec S_ 1 := (fun x v => Host.reduce IntOp.andi x v reducesTo_S1024x100000_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S64x1024 : Shape := ⟨2, ![64, 1024]⟩
abbrev S1024x100000 : Shape := ⟨2, ![1024, 100000]⟩
abbrev S100000 : Shape := ⟨1, ![100000]⟩
abbrev S100000x1024 : Shape := ⟨2, ![100000, 1024]⟩
abbrev S1x100000 : Shape := ⟨2, ![1, 100000]⟩
abbrev S64x100000 : Shape := ⟨2, ![64, 100000]⟩
abbrev S25x64x1 : Shape := ⟨3, ![25, 64, 1]⟩
abbrev S4096x1024 : Shape := ⟨2, ![4096, 1024]⟩
abbrev S1x4096 : Shape := ⟨2, ![1, 4096]⟩
abbrev S64x4096 : Shape := ⟨2, ![64, 4096]⟩
abbrev S1x64x1 : Shape := ⟨3, ![1, 64, 1]⟩
abbrev S64 : Shape := ⟨1, ![64]⟩
abbrev S64x1 : Shape := ⟨2, ![64, 1]⟩

abbrev nBuf : Space → Nat
  | .hbm => 10
  | .vmem => 14
  | .smem => 0
  | _ => 0

abbrev bufTy : (tb : Table) → Fin (tcTables nBuf tb) → BufTy
  | .hbm, ⟨0, _⟩ => ⟨S64x1024, .f32⟩
  | .hbm, ⟨1, _⟩ => ⟨S1024x100000, .f32⟩
  | .hbm, ⟨2, _⟩ => ⟨S100000, .f32⟩
  | .hbm, ⟨3, _⟩ => ⟨S100000x1024, .f32⟩
  | .hbm, ⟨4, _⟩ => ⟨S1x100000, .f32⟩
  | .hbm, ⟨5, _⟩ => ⟨S64x100000, .f32⟩
  | .hbm, ⟨6, _⟩ => ⟨S25x64x1, .f32⟩
  | .hbm, ⟨7, _⟩ => ⟨S25x64x1, .i32⟩
  | .hbm, ⟨8, _⟩ => ⟨S1x64x1, .i32⟩
  | .hbm, ⟨9, _⟩ => ⟨S64, .i32⟩
  | .local _ .vmem, ⟨0, _⟩ => ⟨S64x1024, .f32⟩
  | .local _ .vmem, ⟨1, _⟩ => ⟨S4096x1024, .f32⟩
  | .local _ .vmem, ⟨2, _⟩ => ⟨S4096x1024, .f32⟩
  | .local _ .vmem, ⟨3, _⟩ => ⟨S1x4096, .f32⟩
  | .local _ .vmem, ⟨4, _⟩ => ⟨S1x4096, .f32⟩
  | .local _ .vmem, ⟨5, _⟩ => ⟨S64x4096, .f32⟩
  | .local _ .vmem, ⟨6, _⟩ => ⟨S64x4096, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .i32⟩
  | .local _ .vmem, ⟨10, _⟩ => ⟨S1x64x1, .i32⟩
  | .local _ .vmem, ⟨11, _⟩ => ⟨S25x64x1, .f32⟩
  | .local _ .vmem, ⟨12, _⟩ => ⟨S25x64x1, .i32⟩
  | .local _ .vmem, ⟨13, _⟩ => ⟨S1x64x1, .i32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := .none

abbrev stage1_0 : Fin 1 → Memref sig .tc .vmem S25x64x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S25x64x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x64x1 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S64x1024 : Shape := ⟨2, ![64, 1024]⟩
abbrev S1024x100000 : Shape := ⟨2, ![1024, 100000]⟩
abbrev S100000 : Shape := ⟨1, ![100000]⟩
abbrev S64x100000 : Shape := ⟨2, ![64, 100000]⟩
abbrev S1x100000 : Shape := ⟨2, ![1, 100000]⟩
abbrev S_ : Shape := ⟨0, ![]⟩
abbrev S64 : Shape := ⟨1, ![64]⟩
abbrev S64x1 : Shape := ⟨2, ![64, 1]⟩
abbrev S1 : Shape := ⟨1, ![1]⟩
abbrev S2 : Shape := ⟨1, ![2]⟩
abbrev S1x1 : Shape := ⟨2, ![1, 1]⟩

abbrev nBuf : Space → Nat
  | .hbm => 315
  | .vmem => 0
  | .smem => 0
  | _ => 0

abbrev hbmTy0_0 (i : Nat) : BufTy := match i % 128 with
  | 0 => ⟨S64x1024, .f32⟩
  | 1 => ⟨S1024x100000, .f32⟩
  | 2 => ⟨S100000, .f32⟩
  | 3 => ⟨S64x100000, .f32⟩
  | 4 => ⟨S1x100000, .f32⟩
  | 5 => ⟨S64x100000, .f32⟩
  | 6 => ⟨S64x100000, .f32⟩
  | 7 => ⟨S_, .f32⟩
  | 8 => ⟨S64, .f32⟩
  | 9 => ⟨S_, .f32⟩
  | 10 => ⟨S64, .f32⟩
  | 11 => ⟨S64, .f32⟩
  | 12 => ⟨S64x1, .f32⟩
  | 13 => ⟨S64x100000, .f32⟩
  | 14 => ⟨S64x100000, .f32⟩
  | 15 => ⟨S64x100000, .f32⟩
  | 16 => ⟨S_, .f32⟩
  | 17 => ⟨S64, .f32⟩
  | 18 => ⟨S64x1, .f32⟩
  | 19 => ⟨S64x100000, .f32⟩
  | 20 => ⟨S64x100000, .f32⟩
  | 21 => ⟨S_, .i32⟩
  | 22 => ⟨S_, .i32⟩
  | 23 => ⟨S_, .i32⟩
  | 24 => ⟨S_, .i32⟩
  | 25 => ⟨S1, .i32⟩
  | 26 => ⟨S_, .i32⟩
  | 27 => ⟨S_, .i32⟩
  | 28 => ⟨S_, .i32⟩
  | 29 => ⟨S1, .i32⟩
  | 30 => ⟨S2, .i32⟩
  | 31 => ⟨S_, .f32⟩
  | 32 => ⟨S_, .f32⟩
  | 33 => ⟨S_, .f32⟩
  | 34 => ⟨S_, .f32⟩
  | 35 => ⟨S1x1, .f32⟩
  | 36 => ⟨S1x1, .f32⟩
  | 37 => ⟨S1, .i32⟩
  | 38 => ⟨S_, .i32⟩
  | 39 => ⟨S1, .i32⟩
  | 40 => ⟨S_, .i32⟩
  | 41 => ⟨S64x100000, .i64⟩
  | 42 => ⟨S64x100000, .i64⟩
  | 43 => ⟨S_, .i64⟩
  | 44 => ⟨S64x100000, .i64⟩
  | 45 => ⟨S64x100000, .i64⟩
  | 46 => ⟨S_, .i64⟩
  | 47 => ⟨S64x100000, .i64⟩
  | 48 => ⟨S64x100000, .i64⟩
  | 49 => ⟨S64x100000, .i64⟩
  | 50 => ⟨S_, .i64⟩
  | 51 => ⟨S64x100000, .i64⟩
  | 52 => ⟨S64x100000, .i64⟩
  | 53 => ⟨S64x100000, .i32⟩
  | 54 => ⟨S64x100000, .i32⟩
  | 55 => ⟨S_, .i32⟩
  | 56 => ⟨S_, .i32⟩
  | 57 => ⟨S_, .i32⟩
  | 58 => ⟨S64x100000, .i32⟩
  | 59 => ⟨S64x100000, .i32⟩
  | 60 => ⟨S64x100000, .i32⟩
  | 61 => ⟨S64x100000, .i32⟩
  | 62 => ⟨S64x100000, .i32⟩
  | 63 => ⟨S_, .i32⟩
  | 64 => ⟨S64x100000, .i32⟩
  | 65 => ⟨S64x100000, .i32⟩
  | 66 => ⟨S_, .i32⟩
  | 67 => ⟨S64x100000, .i32⟩
  | 68 => ⟨S64x100000, .i32⟩
  | 69 => ⟨S64x100000, .i32⟩
  | 70 => ⟨S64x100000, .i32⟩
  | 71 => ⟨S64x100000, .i32⟩
  | 72 => ⟨S_, .i32⟩
  | 73 => ⟨S64x100000, .i32⟩
  | 74 => ⟨S64x100000, .i32⟩
  | 75 => ⟨S_, .i32⟩
  | 76 => ⟨S64x100000, .i32⟩
  | 77 => ⟨S64x100000, .i32⟩
  | 78 => ⟨S64x100000, .i32⟩
  | 79 => ⟨S64x100000, .i32⟩
  | 80 => ⟨S64x100000, .i32⟩
  | 81 => ⟨S_, .i32⟩
  | 82 => ⟨S64x100000, .i32⟩
  | 83 => ⟨S64x100000, .i32⟩
  | 84 => ⟨S_, .i32⟩
  | 85 => ⟨S64x100000, .i32⟩
  | 86 => ⟨S64x100000, .i32⟩
  | 87 => ⟨S64x100000, .i32⟩
  | 88 => ⟨S64x100000, .i32⟩
  | 89 => ⟨S64x100000, .i32⟩
  | 90 => ⟨S_, .i32⟩
  | 91 => ⟨S64x100000, .i32⟩
  | 92 => ⟨S64x100000, .i32⟩
  | 93 => ⟨S_, .i32⟩
  | 94 => ⟨S64x100000, .i32⟩
  | 95 => ⟨S64x100000, .i32⟩
  | 96 => ⟨S64x100000, .i32⟩
  | 97 => ⟨S64x100000, .i32⟩
  | 98 => ⟨S64x100000, .i32⟩
  | 99 => ⟨S64x100000, .i32⟩
  | 100 => ⟨S64x100000, .i32⟩
  | 101 => ⟨S64x100000, .i32⟩
  | 102 => ⟨S_, .i32⟩
  | 103 => ⟨S64x100000, .i32⟩
  | 104 => ⟨S64x100000, .i32⟩
  | 105 => ⟨S64x100000, .i32⟩
  | 106 => ⟨S_, .i32⟩
  | 107 => ⟨S64x100000, .i32⟩
  | 108 => ⟨S64x100000, .i32⟩
  | 109 => ⟨S_, .i32⟩
  | 110 => ⟨S64x100000, .i32⟩
  | 111 => ⟨S64x100000, .i32⟩
  | 112 => ⟨S64x100000, .i32⟩
  | 113 => ⟨S64x100000, .i32⟩
  | 114 => ⟨S64x100000, .i32⟩
  | 115 => ⟨S_, .i32⟩
  | 116 => ⟨S64x100000, .i32⟩
  | 117 => ⟨S64x100000, .i32⟩
  | 118 => ⟨S_, .i32⟩
  | 119 => ⟨S64x100000, .i32⟩
  | 120 => ⟨S64x100000, .i32⟩
  | 121 => ⟨S64x100000, .i32⟩
  | 122 => ⟨S64x100000, .i32⟩
  | 123 => ⟨S64x100000, .i32⟩
  | 124 => ⟨S_, .i32⟩
  | 125 => ⟨S64x100000, .i32⟩
  | 126 => ⟨S64x100000, .i32⟩
  | 127 => ⟨S_, .i32⟩
  | _ => ⟨S64x1024, .f32⟩

abbrev hbmTy0_1 (i : Nat) : BufTy := match i % 128 with
  | 0 => ⟨S64x100000, .i32⟩
  | 1 => ⟨S64x100000, .i32⟩
  | 2 => ⟨S64x100000, .i32⟩
  | 3 => ⟨S64x100000, .i32⟩
  | 4 => ⟨S64x100000, .i32⟩
  | 5 => ⟨S_, .i32⟩
  | 6 => ⟨S64x100000, .i32⟩
  | 7 => ⟨S64x100000, .i32⟩
  | 8 => ⟨S_, .i32⟩
  | 9 => ⟨S64x100000, .i32⟩
  | 10 => ⟨S64x100000, .i32⟩
  | 11 => ⟨S64x100000, .i32⟩
  | 12 => ⟨S64x100000, .i32⟩
  | 13 => ⟨S64x100000, .i32⟩
  | 14 => ⟨S64x100000, .i32⟩
  | 15 => ⟨S64x100000, .i32⟩
  | 16 => ⟨S64x100000, .i32⟩
  | 17 => ⟨S_, .i32⟩
  | 18 => ⟨S64x100000, .i32⟩
  | 19 => ⟨S64x100000, .i32⟩
  | 20 => ⟨S64x100000, .i32⟩
  | 21 => ⟨S_, .i32⟩
  | 22 => ⟨S64x100000, .i32⟩
  | 23 => ⟨S64x100000, .i32⟩
  | 24 => ⟨S_, .i32⟩
  | 25 => ⟨S64x100000, .i32⟩
  | 26 => ⟨S64x100000, .i32⟩
  | 27 => ⟨S64x100000, .i32⟩
  | 28 => ⟨S64x100000, .i32⟩
  | 29 => ⟨S64x100000, .i32⟩
  | 30 => ⟨S_, .i32⟩
  | 31 => ⟨S64x100000, .i32⟩
  | 32 => ⟨S64x100000, .i32⟩
  | 33 => ⟨S_, .i32⟩
  | 34 => ⟨S64x100000, .i32⟩
  | 35 => ⟨S64x100000, .i32⟩
  | 36 => ⟨S64x100000, .i32⟩
  | 37 => ⟨S64x100000, .i32⟩
  | 38 => ⟨S64x100000, .i32⟩
  | 39 => ⟨S_, .i32⟩
  | 40 => ⟨S64x100000, .i32⟩
  | 41 => ⟨S64x100000, .i32⟩
  | 42 => ⟨S_, .i32⟩
  | 43 => ⟨S64x100000, .i32⟩
  | 44 => ⟨S64x100000, .i32⟩
  | 45 => ⟨S64x100000, .i32⟩
  | 46 => ⟨S64x100000, .i32⟩
  | 47 => ⟨S64x100000, .i32⟩
  | 48 => ⟨S_, .i32⟩
  | 49 => ⟨S64x100000, .i32⟩
  | 50 => ⟨S64x100000, .i32⟩
  | 51 => ⟨S_, .i32⟩
  | 52 => ⟨S64x100000, .i32⟩
  | 53 => ⟨S64x100000, .i32⟩
  | 54 => ⟨S64x100000, .i32⟩
  | 55 => ⟨S64x100000, .i32⟩
  | 56 => ⟨S64x100000, .i32⟩
  | 57 => ⟨S64x100000, .i32⟩
  | 58 => ⟨S64x100000, .i32⟩
  | 59 => ⟨S64x100000, .i32⟩
  | 60 => ⟨S_, .i32⟩
  | 61 => ⟨S64x100000, .i32⟩
  | 62 => ⟨S64x100000, .i32⟩
  | 63 => ⟨S64x100000, .i32⟩
  | 64 => ⟨S_, .i32⟩
  | 65 => ⟨S64x100000, .i32⟩
  | 66 => ⟨S64x100000, .i32⟩
  | 67 => ⟨S_, .i32⟩
  | 68 => ⟨S64x100000, .i32⟩
  | 69 => ⟨S64x100000, .i32⟩
  | 70 => ⟨S64x100000, .i32⟩
  | 71 => ⟨S64x100000, .i32⟩
  | 72 => ⟨S64x100000, .i32⟩
  | 73 => ⟨S_, .i32⟩
  | 74 => ⟨S64x100000, .i32⟩
  | 75 => ⟨S64x100000, .i32⟩
  | 76 => ⟨S_, .i32⟩
  | 77 => ⟨S64x100000, .i32⟩
  | 78 => ⟨S64x100000, .i32⟩
  | 79 => ⟨S64x100000, .i32⟩
  | 80 => ⟨S64x100000, .i32⟩
  | 81 => ⟨S64x100000, .i32⟩
  | 82 => ⟨S_, .i32⟩
  | 83 => ⟨S64x100000, .i32⟩
  | 84 => ⟨S64x100000, .i32⟩
  | 85 => ⟨S_, .i32⟩
  | 86 => ⟨S64x100000, .i32⟩
  | 87 => ⟨S64x100000, .i32⟩
  | 88 => ⟨S64x100000, .i32⟩
  | 89 => ⟨S64x100000, .i32⟩
  | 90 => ⟨S64x100000, .i32⟩
  | 91 => ⟨S_, .i32⟩
  | 92 => ⟨S64x100000, .i32⟩
  | 93 => ⟨S64x100000, .i32⟩
  | 94 => ⟨S_, .i32⟩
  | 95 => ⟨S64x100000, .i32⟩
  | 96 => ⟨S64x100000, .i32⟩
  | 97 => ⟨S64x100000, .i32⟩
  | 98 => ⟨S64x100000, .i32⟩
  | 99 => ⟨S64x100000, .i32⟩
  | 100 => ⟨S64x100000, .i32⟩
  | 101 => ⟨S64x100000, .i32⟩
  | 102 => ⟨S64x100000, .i32⟩
  | 103 => ⟨S_, .i32⟩
  | 104 => ⟨S64x100000, .i32⟩
  | 105 => ⟨S64x100000, .i32⟩
  | 106 => ⟨S64x100000, .i32⟩
  | 107 => ⟨S_, .i32⟩
  | 108 => ⟨S64x100000, .i32⟩
  | 109 => ⟨S64x100000, .i32⟩
  | 110 => ⟨S_, .i32⟩
  | 111 => ⟨S64x100000, .i32⟩
  | 112 => ⟨S64x100000, .i32⟩
  | 113 => ⟨S64x100000, .i32⟩
  | 114 => ⟨S64x100000, .i32⟩
  | 115 => ⟨S64x100000, .i32⟩
  | 116 => ⟨S_, .i32⟩
  | 117 => ⟨S64x100000, .i32⟩
  | 118 => ⟨S64x100000, .i32⟩
  | 119 => ⟨S_, .i32⟩
  | 120 => ⟨S64x100000, .i32⟩
  | 121 => ⟨S64x100000, .i32⟩
  | 122 => ⟨S64x100000, .i32⟩
  | 123 => ⟨S64x100000, .i32⟩
  | 124 => ⟨S64x100000, .i32⟩
  | 125 => ⟨S_, .i32⟩
  | 126 => ⟨S64x100000, .i32⟩
  | 127 => ⟨S64x100000, .i32⟩
  | _ => ⟨S64x1024, .f32⟩

abbrev hbmTy0_2 (i : Nat) : BufTy := match i % 128 with
  | 0 => ⟨S_, .i32⟩
  | 1 => ⟨S64x100000, .i32⟩
  | 2 => ⟨S64x100000, .i32⟩
  | 3 => ⟨S64x100000, .i32⟩
  | 4 => ⟨S64x100000, .i32⟩
  | 5 => ⟨S64x100000, .i32⟩
  | 6 => ⟨S_, .i32⟩
  | 7 => ⟨S64x100000, .i32⟩
  | 8 => ⟨S64x100000, .i32⟩
  | 9 => ⟨S_, .i32⟩
  | 10 => ⟨S64x100000, .i32⟩
  | 11 => ⟨S64x100000, .i32⟩
  | 12 => ⟨S64x100000, .i32⟩
  | 13 => ⟨S64x100000, .i32⟩
  | 14 => ⟨S64x100000, .i32⟩
  | 15 => ⟨S64x100000, .i32⟩
  | 16 => ⟨S64x100000, .i32⟩
  | 17 => ⟨S64x100000, .i32⟩
  | 18 => ⟨S_, .i32⟩
  | 19 => ⟨S64x100000, .i32⟩
  | 20 => ⟨S64x100000, .i32⟩
  | 21 => ⟨S64x100000, .i32⟩
  | 22 => ⟨S_, .i32⟩
  | 23 => ⟨S64x100000, .i32⟩
  | 24 => ⟨S64x100000, .i32⟩
  | 25 => ⟨S_, .i32⟩
  | 26 => ⟨S64x100000, .i32⟩
  | 27 => ⟨S64x100000, .i32⟩
  | 28 => ⟨S64x100000, .f32⟩
  | 29 => ⟨S_, .f32⟩
  | 30 => ⟨S64x100000, .f32⟩
  | 31 => ⟨S64x100000, .f32⟩
  | 32 => ⟨S1x1, .f32⟩
  | 33 => ⟨S64x100000, .f32⟩
  | 34 => ⟨S64x100000, .f32⟩
  | 35 => ⟨S64x100000, .f32⟩
  | 36 => ⟨S64x100000, .f32⟩
  | 37 => ⟨S64x100000, .f32⟩
  | 38 => ⟨S64x100000, .f32⟩
  | 39 => ⟨S_, .f32⟩
  | 40 => ⟨S64x100000, .f32⟩
  | 41 => ⟨S64x100000, .f32⟩
  | 42 => ⟨S_, .f32⟩
  | 43 => ⟨S64x100000, .f32⟩
  | 44 => ⟨S64x100000, .f32⟩
  | 45 => ⟨S_, .f32⟩
  | 46 => ⟨S64x100000, .f32⟩
  | 47 => ⟨S64x100000, .f32⟩
  | 48 => ⟨S64x100000, .f32⟩
  | 49 => ⟨S64x100000, .f32⟩
  | 50 => ⟨S64x100000, .f32⟩
  | 51 => ⟨S64x100000, .f32⟩
  | 52 => ⟨S64x100000, .f32⟩
  | 53 => ⟨S64x100000, .f32⟩
  | 54 => ⟨S64x100000, .i32⟩
  | 55 => ⟨S_, .f32⟩
  | 56 => ⟨S_, .i32⟩
  | 57 => ⟨S64, .f32⟩
  | 58 => ⟨S64, .i32⟩
  | _ => ⟨S64x1024, .f32⟩

abbrev hbmTy (i : Nat) : BufTy := match i / 128 with
  | 0 => hbmTy0_0 i
  | 1 => hbmTy0_1 i
  | 2 => hbmTy0_2 i
  | _ => ⟨S64x1024, .f32⟩

abbrev bufTy : (tb : Table) → Fin (tcTables nBuf tb) → BufTy
  | .hbm, ⟨i, _⟩ => hbmTy i
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_c : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_c_1 : Ref sig .tc := ⟨.hbm, 50, rfl⟩
abbrev main_call0_v15 : Ref sig .tc := ⟨.hbm, 51, rfl⟩
abbrev main_call0_v16 : Ref sig .tc := ⟨.hbm, 52, rfl⟩
abbrev main_call0_v17 : Ref sig .tc := ⟨.hbm, 53, rfl⟩
abbrev main_call0_v18 : Ref sig .tc := ⟨.hbm, 54, rfl⟩
abbrev main_call0_call0_v0 : Ref sig .tc := ⟨.hbm, 55, rfl⟩
abbrev main_call0_call0_c : Ref sig .tc := ⟨.hbm, 56, rfl⟩
abbrev main_call0_call0_v1 : Ref sig .tc := ⟨.hbm, 57, rfl⟩
abbrev main_call0_call0_v2 : Ref sig .tc := ⟨.hbm, 58, rfl⟩
abbrev main_call0_call0_v3 : Ref sig .tc := ⟨.hbm, 59, rfl⟩
abbrev main_call0_call0_v4 : Ref sig .tc := ⟨.hbm, 60, rfl⟩
abbrev main_call0_call0_v5 : Ref sig .tc := ⟨.hbm, 61, rfl⟩
abbrev main_call0_call0_v6 : Ref sig .tc := ⟨.hbm, 62, rfl⟩
abbrev main_call0_call0_c_0 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_c_1 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_call0_v12 : Ref sig .tc := ⟨.hbm, 70, rfl⟩
abbrev main_call0_call0_v13 : Ref sig .tc := ⟨.hbm, 71, rfl⟩
abbrev main_call0_call0_c_2 : Ref sig .tc := ⟨.hbm, 72, rfl⟩
abbrev main_call0_call0_v14 : Ref sig .tc := ⟨.hbm, 73, rfl⟩
abbrev main_call0_call0_v15 : Ref sig .tc := ⟨.hbm, 74, rfl⟩
abbrev main_call0_call0_c_3 : Ref sig .tc := ⟨.hbm, 75, rfl⟩
abbrev main_call0_call0_v16 : Ref sig .tc := ⟨.hbm, 76, rfl⟩
abbrev main_call0_call0_v17 : Ref sig .tc := ⟨.hbm, 77, rfl⟩
abbrev main_call0_call0_v18 : Ref sig .tc := ⟨.hbm, 78, rfl⟩
abbrev main_call0_call0_v19 : Ref sig .tc := ⟨.hbm, 79, rfl⟩
abbrev main_call0_call0_v20 : Ref sig .tc := ⟨.hbm, 80, rfl⟩
abbrev main_call0_call0_c_4 : Ref sig .tc := ⟨.hbm, 81, rfl⟩
abbrev main_call0_call0_v21 : Ref sig .tc := ⟨.hbm, 82, rfl⟩
abbrev main_call0_call0_v22 : Ref sig .tc := ⟨.hbm, 83, rfl⟩
abbrev main_call0_call0_c_5 : Ref sig .tc := ⟨.hbm, 84, rfl⟩
abbrev main_call0_call0_v23 : Ref sig .tc := ⟨.hbm, 85, rfl⟩
abbrev main_call0_call0_v24 : Ref sig .tc := ⟨.hbm, 86, rfl⟩
abbrev main_call0_call0_v25 : Ref sig .tc := ⟨.hbm, 87, rfl⟩
abbrev main_call0_call0_v26 : Ref sig .tc := ⟨.hbm, 88, rfl⟩
abbrev main_call0_call0_v27 : Ref sig .tc := ⟨.hbm, 89, rfl⟩
abbrev main_call0_call0_c_6 : Ref sig .tc := ⟨.hbm, 90, rfl⟩
abbrev main_call0_call0_v28 : Ref sig .tc := ⟨.hbm, 91, rfl⟩
abbrev main_call0_call0_v29 : Ref sig .tc := ⟨.hbm, 92, rfl⟩
abbrev main_call0_call0_c_7 : Ref sig .tc := ⟨.hbm, 93, rfl⟩
abbrev main_call0_call0_v30 : Ref sig .tc := ⟨.hbm, 94, rfl⟩
abbrev main_call0_call0_v31 : Ref sig .tc := ⟨.hbm, 95, rfl⟩
abbrev main_call0_call0_v32 : Ref sig .tc := ⟨.hbm, 96, rfl⟩
abbrev main_call0_call0_v33 : Ref sig .tc := ⟨.hbm, 97, rfl⟩
abbrev main_call0_call0_v34 : Ref sig .tc := ⟨.hbm, 98, rfl⟩
abbrev main_call0_call0_v35 : Ref sig .tc := ⟨.hbm, 99, rfl⟩
abbrev main_call0_call0_v36 : Ref sig .tc := ⟨.hbm, 100, rfl⟩
abbrev main_call0_call0_v37 : Ref sig .tc := ⟨.hbm, 101, rfl⟩
abbrev main_call0_call0_c_8 : Ref sig .tc := ⟨.hbm, 102, rfl⟩
abbrev main_call0_call0_v38 : Ref sig .tc := ⟨.hbm, 103, rfl⟩
abbrev main_call0_call0_v39 : Ref sig .tc := ⟨.hbm, 104, rfl⟩
abbrev main_call0_call0_v40 : Ref sig .tc := ⟨.hbm, 105, rfl⟩
abbrev main_call0_call0_c_9 : Ref sig .tc := ⟨.hbm, 106, rfl⟩
abbrev main_call0_call0_v41 : Ref sig .tc := ⟨.hbm, 107, rfl⟩
abbrev main_call0_call0_v42 : Ref sig .tc := ⟨.hbm, 108, rfl⟩
abbrev main_call0_call0_c_10 : Ref sig .tc := ⟨.hbm, 109, rfl⟩
abbrev main_call0_call0_v43 : Ref sig .tc := ⟨.hbm, 110, rfl⟩
abbrev main_call0_call0_v44 : Ref sig .tc := ⟨.hbm, 111, rfl⟩
abbrev main_call0_call0_v45 : Ref sig .tc := ⟨.hbm, 112, rfl⟩
abbrev main_call0_call0_v46 : Ref sig .tc := ⟨.hbm, 113, rfl⟩
abbrev main_call0_call0_v47 : Ref sig .tc := ⟨.hbm, 114, rfl⟩
abbrev main_call0_call0_c_11 : Ref sig .tc := ⟨.hbm, 115, rfl⟩
abbrev main_call0_call0_v48 : Ref sig .tc := ⟨.hbm, 116, rfl⟩
abbrev main_call0_call0_v49 : Ref sig .tc := ⟨.hbm, 117, rfl⟩
abbrev main_call0_call0_c_12 : Ref sig .tc := ⟨.hbm, 118, rfl⟩
abbrev main_call0_call0_v50 : Ref sig .tc := ⟨.hbm, 119, rfl⟩
abbrev main_call0_call0_v51 : Ref sig .tc := ⟨.hbm, 120, rfl⟩
abbrev main_call0_call0_v52 : Ref sig .tc := ⟨.hbm, 121, rfl⟩
abbrev main_call0_call0_v53 : Ref sig .tc := ⟨.hbm, 122, rfl⟩
abbrev main_call0_call0_v54 : Ref sig .tc := ⟨.hbm, 123, rfl⟩
abbrev main_call0_call0_c_13 : Ref sig .tc := ⟨.hbm, 124, rfl⟩
abbrev main_call0_call0_v55 : Ref sig .tc := ⟨.hbm, 125, rfl⟩
abbrev main_call0_call0_v56 : Ref sig .tc := ⟨.hbm, 126, rfl⟩
abbrev main_call0_call0_c_14 : Ref sig .tc := ⟨.hbm, 127, rfl⟩
abbrev main_call0_call0_v57 : Ref sig .tc := ⟨.hbm, 128, rfl⟩
abbrev main_call0_call0_v58 : Ref sig .tc := ⟨.hbm, 129, rfl⟩
abbrev main_call0_call0_v59 : Ref sig .tc := ⟨.hbm, 130, rfl⟩
abbrev main_call0_call0_v60 : Ref sig .tc := ⟨.hbm, 131, rfl⟩
abbrev main_call0_call0_v61 : Ref sig .tc := ⟨.hbm, 132, rfl⟩
abbrev main_call0_call0_c_15 : Ref sig .tc := ⟨.hbm, 133, rfl⟩
abbrev main_call0_call0_v62 : Ref sig .tc := ⟨.hbm, 134, rfl⟩
abbrev main_call0_call0_v63 : Ref sig .tc := ⟨.hbm, 135, rfl⟩
abbrev main_call0_call0_c_16 : Ref sig .tc := ⟨.hbm, 136, rfl⟩
abbrev main_call0_call0_v64 : Ref sig .tc := ⟨.hbm, 137, rfl⟩
abbrev main_call0_call0_v65 : Ref sig .tc := ⟨.hbm, 138, rfl⟩
abbrev main_call0_call0_v66 : Ref sig .tc := ⟨.hbm, 139, rfl⟩
abbrev main_call0_call0_v67 : Ref sig .tc := ⟨.hbm, 140, rfl⟩
abbrev main_call0_call0_v68 : Ref sig .tc := ⟨.hbm, 141, rfl⟩
abbrev main_call0_call0_v69 : Ref sig .tc := ⟨.hbm, 142, rfl⟩
abbrev main_call0_call0_v70 : Ref sig .tc := ⟨.hbm, 143, rfl⟩
abbrev main_call0_call0_v71 : Ref sig .tc := ⟨.hbm, 144, rfl⟩
abbrev main_call0_call0_c_17 : Ref sig .tc := ⟨.hbm, 145, rfl⟩
abbrev main_call0_call0_v72 : Ref sig .tc := ⟨.hbm, 146, rfl⟩
abbrev main_call0_call0_v73 : Ref sig .tc := ⟨.hbm, 147, rfl⟩
abbrev main_call0_call0_v74 : Ref sig .tc := ⟨.hbm, 148, rfl⟩
abbrev main_call0_call0_c_18 : Ref sig .tc := ⟨.hbm, 149, rfl⟩
abbrev main_call0_call0_v75 : Ref sig .tc := ⟨.hbm, 150, rfl⟩
abbrev main_call0_call0_v76 : Ref sig .tc := ⟨.hbm, 151, rfl⟩
abbrev main_call0_call0_c_19 : Ref sig .tc := ⟨.hbm, 152, rfl⟩
abbrev main_call0_call0_v77 : Ref sig .tc := ⟨.hbm, 153, rfl⟩
abbrev main_call0_call0_v78 : Ref sig .tc := ⟨.hbm, 154, rfl⟩
abbrev main_call0_call0_v79 : Ref sig .tc := ⟨.hbm, 155, rfl⟩
abbrev main_call0_call0_v80 : Ref sig .tc := ⟨.hbm, 156, rfl⟩
abbrev main_call0_call0_v81 : Ref sig .tc := ⟨.hbm, 157, rfl⟩
abbrev main_call0_call0_c_20 : Ref sig .tc := ⟨.hbm, 158, rfl⟩
abbrev main_call0_call0_v82 : Ref sig .tc := ⟨.hbm, 159, rfl⟩
abbrev main_call0_call0_v83 : Ref sig .tc := ⟨.hbm, 160, rfl⟩
abbrev main_call0_call0_c_21 : Ref sig .tc := ⟨.hbm, 161, rfl⟩
abbrev main_call0_call0_v84 : Ref sig .tc := ⟨.hbm, 162, rfl⟩
abbrev main_call0_call0_v85 : Ref sig .tc := ⟨.hbm, 163, rfl⟩
abbrev main_call0_call0_v86 : Ref sig .tc := ⟨.hbm, 164, rfl⟩
abbrev main_call0_call0_v87 : Ref sig .tc := ⟨.hbm, 165, rfl⟩
abbrev main_call0_call0_v88 : Ref sig .tc := ⟨.hbm, 166, rfl⟩
abbrev main_call0_call0_c_22 : Ref sig .tc := ⟨.hbm, 167, rfl⟩
abbrev main_call0_call0_v89 : Ref sig .tc := ⟨.hbm, 168, rfl⟩
abbrev main_call0_call0_v90 : Ref sig .tc := ⟨.hbm, 169, rfl⟩
abbrev main_call0_call0_c_23 : Ref sig .tc := ⟨.hbm, 170, rfl⟩
abbrev main_call0_call0_v91 : Ref sig .tc := ⟨.hbm, 171, rfl⟩
abbrev main_call0_call0_v92 : Ref sig .tc := ⟨.hbm, 172, rfl⟩
abbrev main_call0_call0_v93 : Ref sig .tc := ⟨.hbm, 173, rfl⟩
abbrev main_call0_call0_v94 : Ref sig .tc := ⟨.hbm, 174, rfl⟩
abbrev main_call0_call0_v95 : Ref sig .tc := ⟨.hbm, 175, rfl⟩
abbrev main_call0_call0_c_24 : Ref sig .tc := ⟨.hbm, 176, rfl⟩
abbrev main_call0_call0_v96 : Ref sig .tc := ⟨.hbm, 177, rfl⟩
abbrev main_call0_call0_v97 : Ref sig .tc := ⟨.hbm, 178, rfl⟩
abbrev main_call0_call0_c_25 : Ref sig .tc := ⟨.hbm, 179, rfl⟩
abbrev main_call0_call0_v98 : Ref sig .tc := ⟨.hbm, 180, rfl⟩
abbrev main_call0_call0_v99 : Ref sig .tc := ⟨.hbm, 181, rfl⟩
abbrev main_call0_call0_v100 : Ref sig .tc := ⟨.hbm, 182, rfl⟩
abbrev main_call0_call0_v101 : Ref sig .tc := ⟨.hbm, 183, rfl⟩
abbrev main_call0_call0_v102 : Ref sig .tc := ⟨.hbm, 184, rfl⟩
abbrev main_call0_call0_v103 : Ref sig .tc := ⟨.hbm, 185, rfl⟩
abbrev main_call0_call0_v104 : Ref sig .tc := ⟨.hbm, 186, rfl⟩
abbrev main_call0_call0_v105 : Ref sig .tc := ⟨.hbm, 187, rfl⟩
abbrev main_call0_call0_c_26 : Ref sig .tc := ⟨.hbm, 188, rfl⟩
abbrev main_call0_call0_v106 : Ref sig .tc := ⟨.hbm, 189, rfl⟩
abbrev main_call0_call0_v107 : Ref sig .tc := ⟨.hbm, 190, rfl⟩
abbrev main_call0_call0_v108 : Ref sig .tc := ⟨.hbm, 191, rfl⟩
abbrev main_call0_call0_c_27 : Ref sig .tc := ⟨.hbm, 192, rfl⟩
abbrev main_call0_call0_v109 : Ref sig .tc := ⟨.hbm, 193, rfl⟩
abbrev main_call0_call0_v110 : Ref sig .tc := ⟨.hbm, 194, rfl⟩
abbrev main_call0_call0_c_28 : Ref sig .tc := ⟨.hbm, 195, rfl⟩
abbrev main_call0_call0_v111 : Ref sig .tc := ⟨.hbm, 196, rfl⟩
abbrev main_call0_call0_v112 : Ref sig .tc := ⟨.hbm, 197, rfl⟩
abbrev main_call0_call0_v113 : Ref sig .tc := ⟨.hbm, 198, rfl⟩
abbrev main_call0_call0_v114 : Ref sig .tc := ⟨.hbm, 199, rfl⟩
abbrev main_call0_call0_v115 : Ref sig .tc := ⟨.hbm, 200, rfl⟩
abbrev main_call0_call0_c_29 : Ref sig .tc := ⟨.hbm, 201, rfl⟩
abbrev main_call0_call0_v116 : Ref sig .tc := ⟨.hbm, 202, rfl⟩
abbrev main_call0_call0_v117 : Ref sig .tc := ⟨.hbm, 203, rfl⟩
abbrev main_call0_call0_c_30 : Ref sig .tc := ⟨.hbm, 204, rfl⟩
abbrev main_call0_call0_v118 : Ref sig .tc := ⟨.hbm, 205, rfl⟩
abbrev main_call0_call0_v119 : Ref sig .tc := ⟨.hbm, 206, rfl⟩
abbrev main_call0_call0_v120 : Ref sig .tc := ⟨.hbm, 207, rfl⟩
abbrev main_call0_call0_v121 : Ref sig .tc := ⟨.hbm, 208, rfl⟩
abbrev main_call0_call0_v122 : Ref sig .tc := ⟨.hbm, 209, rfl⟩
abbrev main_call0_call0_c_31 : Ref sig .tc := ⟨.hbm, 210, rfl⟩
abbrev main_call0_call0_v123 : Ref sig .tc := ⟨.hbm, 211, rfl⟩
abbrev main_call0_call0_v124 : Ref sig .tc := ⟨.hbm, 212, rfl⟩
abbrev main_call0_call0_c_32 : Ref sig .tc := ⟨.hbm, 213, rfl⟩
abbrev main_call0_call0_v125 : Ref sig .tc := ⟨.hbm, 214, rfl⟩
abbrev main_call0_call0_v126 : Ref sig .tc := ⟨.hbm, 215, rfl⟩
abbrev main_call0_call0_v127 : Ref sig .tc := ⟨.hbm, 216, rfl⟩
abbrev main_call0_call0_v128 : Ref sig .tc := ⟨.hbm, 217, rfl⟩
abbrev main_call0_call0_v129 : Ref sig .tc := ⟨.hbm, 218, rfl⟩
abbrev main_call0_call0_c_33 : Ref sig .tc := ⟨.hbm, 219, rfl⟩
abbrev main_call0_call0_v130 : Ref sig .tc := ⟨.hbm, 220, rfl⟩
abbrev main_call0_call0_v131 : Ref sig .tc := ⟨.hbm, 221, rfl⟩
abbrev main_call0_call0_c_34 : Ref sig .tc := ⟨.hbm, 222, rfl⟩
abbrev main_call0_call0_v132 : Ref sig .tc := ⟨.hbm, 223, rfl⟩
abbrev main_call0_call0_v133 : Ref sig .tc := ⟨.hbm, 224, rfl⟩
abbrev main_call0_call0_v134 : Ref sig .tc := ⟨.hbm, 225, rfl⟩
abbrev main_call0_call0_v135 : Ref sig .tc := ⟨.hbm, 226, rfl⟩
abbrev main_call0_call0_v136 : Ref sig .tc := ⟨.hbm, 227, rfl⟩
abbrev main_call0_call0_v137 : Ref sig .tc := ⟨.hbm, 228, rfl⟩
abbrev main_call0_call0_v138 : Ref sig .tc := ⟨.hbm, 229, rfl⟩
abbrev main_call0_call0_v139 : Ref sig .tc := ⟨.hbm, 230, rfl⟩
abbrev main_call0_call0_c_35 : Ref sig .tc := ⟨.hbm, 231, rfl⟩
abbrev main_call0_call0_v140 : Ref sig .tc := ⟨.hbm, 232, rfl⟩
abbrev main_call0_call0_v141 : Ref sig .tc := ⟨.hbm, 233, rfl⟩
abbrev main_call0_call0_v142 : Ref sig .tc := ⟨.hbm, 234, rfl⟩
abbrev main_call0_call0_c_36 : Ref sig .tc := ⟨.hbm, 235, rfl⟩
abbrev main_call0_call0_v143 : Ref sig .tc := ⟨.hbm, 236, rfl⟩
abbrev main_call0_call0_v144 : Ref sig .tc := ⟨.hbm, 237, rfl⟩
abbrev main_call0_call0_c_37 : Ref sig .tc := ⟨.hbm, 238, rfl⟩
abbrev main_call0_call0_v145 : Ref sig .tc := ⟨.hbm, 239, rfl⟩
abbrev main_call0_call0_v146 : Ref sig .tc := ⟨.hbm, 240, rfl⟩
abbrev main_call0_call0_v147 : Ref sig .tc := ⟨.hbm, 241, rfl⟩
abbrev main_call0_call0_v148 : Ref sig .tc := ⟨.hbm, 242, rfl⟩
abbrev main_call0_call0_v149 : Ref sig .tc := ⟨.hbm, 243, rfl⟩
abbrev main_call0_call0_c_38 : Ref sig .tc := ⟨.hbm, 244, rfl⟩
abbrev main_call0_call0_v150 : Ref sig .tc := ⟨.hbm, 245, rfl⟩
abbrev main_call0_call0_v151 : Ref sig .tc := ⟨.hbm, 246, rfl⟩
abbrev main_call0_call0_c_39 : Ref sig .tc := ⟨.hbm, 247, rfl⟩
abbrev main_call0_call0_v152 : Ref sig .tc := ⟨.hbm, 248, rfl⟩
abbrev main_call0_call0_v153 : Ref sig .tc := ⟨.hbm, 249, rfl⟩
abbrev main_call0_call0_v154 : Ref sig .tc := ⟨.hbm, 250, rfl⟩
abbrev main_call0_call0_v155 : Ref sig .tc := ⟨.hbm, 251, rfl⟩
abbrev main_call0_call0_v156 : Ref sig .tc := ⟨.hbm, 252, rfl⟩
abbrev main_call0_call0_c_40 : Ref sig .tc := ⟨.hbm, 253, rfl⟩
abbrev main_call0_call0_v157 : Ref sig .tc := ⟨.hbm, 254, rfl⟩
abbrev main_call0_call0_v158 : Ref sig .tc := ⟨.hbm, 255, rfl⟩
abbrev main_call0_call0_c_41 : Ref sig .tc := ⟨.hbm, 256, rfl⟩
abbrev main_call0_call0_v159 : Ref sig .tc := ⟨.hbm, 257, rfl⟩
abbrev main_call0_call0_v160 : Ref sig .tc := ⟨.hbm, 258, rfl⟩
abbrev main_call0_call0_v161 : Ref sig .tc := ⟨.hbm, 259, rfl⟩
abbrev main_call0_call0_v162 : Ref sig .tc := ⟨.hbm, 260, rfl⟩
abbrev main_call0_call0_v163 : Ref sig .tc := ⟨.hbm, 261, rfl⟩
abbrev main_call0_call0_c_42 : Ref sig .tc := ⟨.hbm, 262, rfl⟩
abbrev main_call0_call0_v164 : Ref sig .tc := ⟨.hbm, 263, rfl⟩
abbrev main_call0_call0_v165 : Ref sig .tc := ⟨.hbm, 264, rfl⟩
abbrev main_call0_call0_c_43 : Ref sig .tc := ⟨.hbm, 265, rfl⟩
abbrev main_call0_call0_v166 : Ref sig .tc := ⟨.hbm, 266, rfl⟩
abbrev main_call0_call0_v167 : Ref sig .tc := ⟨.hbm, 267, rfl⟩
abbrev main_call0_call0_v168 : Ref sig .tc := ⟨.hbm, 268, rfl⟩
abbrev main_call0_call0_v169 : Ref sig .tc := ⟨.hbm, 269, rfl⟩
abbrev main_call0_call0_v170 : Ref sig .tc := ⟨.hbm, 270, rfl⟩
abbrev main_call0_v19_0 : Ref sig .tc := ⟨.hbm, 271, rfl⟩
abbrev main_call0_call0_v172 : Ref sig .tc := ⟨.hbm, 272, rfl⟩
abbrev main_call0_call0_v173 : Ref sig .tc := ⟨.hbm, 273, rfl⟩
abbrev main_call0_call0_c_44 : Ref sig .tc := ⟨.hbm, 274, rfl⟩
abbrev main_call0_call0_v174 : Ref sig .tc := ⟨.hbm, 275, rfl⟩
abbrev main_call0_v19_1 : Ref sig .tc := ⟨.hbm, 276, rfl⟩
abbrev main_call0_v20 : Ref sig .tc := ⟨.hbm, 277, rfl⟩
abbrev main_call0_c_2 : Ref sig .tc := ⟨.hbm, 278, rfl⟩
abbrev main_call0_v21 : Ref sig .tc := ⟨.hbm, 279, rfl⟩
abbrev main_call0_v22 : Ref sig .tc := ⟨.hbm, 280, rfl⟩
abbrev main_call0_c_3 : Ref sig .tc := ⟨.hbm, 281, rfl⟩
abbrev main_call0_v23 : Ref sig .tc := ⟨.hbm, 282, rfl⟩
abbrev main_call0_v24 : Ref sig .tc := ⟨.hbm, 283, rfl⟩
abbrev main_call0_v25 : Ref sig .tc := ⟨.hbm, 284, rfl⟩
abbrev main_call0_cst : Ref sig .tc := ⟨.hbm, 285, rfl⟩
abbrev main_call0_v26 : Ref sig .tc := ⟨.hbm, 286, rfl⟩
abbrev main_call0_v27 : Ref sig .tc := ⟨.hbm, 287, rfl⟩
abbrev main_call0_v28 : Ref sig .tc := ⟨.hbm, 288, rfl⟩
abbrev main_call0_v29 : Ref sig .tc := ⟨.hbm, 289, rfl⟩
abbrev main_call0_v30 : Ref sig .tc := ⟨.hbm, 290, rfl⟩
abbrev main_call0_v31 : Ref sig .tc := ⟨.hbm, 291, rfl⟩
abbrev main_call0_v32 : Ref sig .tc := ⟨.hbm, 292, rfl⟩
abbrev main_call0_v33 : Ref sig .tc := ⟨.hbm, 293, rfl⟩
abbrev main_v22 : Ref sig .tc := ⟨.hbm, 294, rfl⟩
abbrev main_cst_6 : Ref sig .tc := ⟨.hbm, 295, rfl⟩
abbrev main_v23 : Ref sig .tc := ⟨.hbm, 296, rfl⟩
abbrev main_v24 : Ref sig .tc := ⟨.hbm, 297, rfl⟩
abbrev main_cst_7 : Ref sig .tc := ⟨.hbm, 298, rfl⟩
abbrev main_v25 : Ref sig .tc := ⟨.hbm, 299, rfl⟩
abbrev main_v26 : Ref sig .tc := ⟨.hbm, 300, rfl⟩
abbrev main_cst_8 : Ref sig .tc := ⟨.hbm, 301, rfl⟩
abbrev main_v27 : Ref sig .tc := ⟨.hbm, 302, rfl⟩
abbrev main_v28 : Ref sig .tc := ⟨.hbm, 303, rfl⟩
abbrev main_v29 : Ref sig .tc := ⟨.hbm, 304, rfl⟩
abbrev main_v30 : Ref sig .tc := ⟨.hbm, 305, rfl⟩
abbrev main_v31 : Ref sig .tc := ⟨.hbm, 306, rfl⟩
abbrev main_v32 : Ref sig .tc := ⟨.hbm, 307, rfl⟩
abbrev main_v33 : Ref sig .tc := ⟨.hbm, 308, rfl⟩
abbrev main_v34 : Ref sig .tc := ⟨.hbm, 309, rfl⟩
abbrev main_call1_v0 : Ref sig .tc := ⟨.hbm, 310, rfl⟩
abbrev main_call1_cst : Ref sig .tc := ⟨.hbm, 311, rfl⟩
abbrev main_call1_c : Ref sig .tc := ⟨.hbm, 312, rfl⟩
abbrev main_call1_v1_0 : Ref sig .tc := ⟨.hbm, 313, rfl⟩
abbrev main_v35 : Ref sig .tc := ⟨.hbm, 314, rfl⟩

abbrev nD : Nat := 1
abbrev τ : Topo := Topo.v7x

variable {F : FTy → Type} [FloatOps F]
-- ==== Proof.Pick.lean ====
/-
  The first place at which a finite family of extended reals is greatest: by a maximum and a least index, tile by tile,
  and by one left fold over (value, index) pairs. Free of any program.
-/
module

public import proofs.«01_k».proof.Proof.Gen.ReferenceIdeal
public import Idealize.ShloMosaic.PureOps.Ideal.Laws
public import Idealize.ShloMosaic.PureOps.Reduce

@[expose] public section

namespace Cert.Proof.Pick

open Idealize.ShloMosaic

noncomputable section

/-- `k` is the first place at which `h` is greatest. -/
def First {n : ℕ} (h : Fin n → EReal) (k : Fin n) : Prop := (∀ i, h i ≤ h k) ∧ ∀ i, i < k → h i < h k

theorem First.unique {n : ℕ} {h : Fin n → EReal} {k l : Fin n} (hk : First h k) (hl : First h l) : k = l := by
  rcases lt_trichotomy k l with c | c | c
  · exact absurd (hl.2 k c) (not_lt.2 (hk.1 l))
  · exact c
  · exact absurd (hk.2 l c) (not_lt.2 (hl.1 k))

theorem exists_first {n : ℕ} (hn : 0 < n) (h : Fin n → EReal) : ∃ k, First h k := by
  haveI : Nonempty (Fin n) := ⟨⟨0, hn⟩⟩
  obtain ⟨m, hm⟩ := Finite.exists_max h
  let s : Finset (Fin n) := Finset.univ.filter fun i => h i = h m
  have hs : s.Nonempty := ⟨m, by simp [s]⟩
  have he : h (s.min' hs) = h m := (Finset.mem_filter.mp (s.min'_mem hs)).2
  refine ⟨s.min' hs, fun i => he ▸ hm i, fun i hi => lt_of_le_of_ne (he ▸ hm i) fun e => ?_⟩
  exact absurd (s.min'_le i (Finset.mem_filter.mpr ⟨Finset.mem_univ _, e.trans he⟩)) (not_le.2 hi)

/-- The first greatest place does not move under a shift by a real number. -/
theorem First.shift {n : ℕ} {h h' : Fin n → EReal} {k : Fin n} (c : ℝ) (e : ∀ i, h' i = h i + (c : EReal)) (hk : First h k) : First h' k := by
  constructor
  · intro i; rw [e, e]; exact add_le_add_left (hk.1 i) _
  · intro i hi; rw [e, e]
    exact EReal.add_lt_add_right_coe (hk.2 i hi) c

/-- The greatest value, as a fold. -/
theorem First.fold_max {n : ℕ} {h : Fin n → EReal} {k : Fin n} (hk : First h k) : Finset.univ.fold max ⊥ h = h k :=
  le_antisymm (Finset.fold_max_le (h k) |>.mpr ⟨bot_le, fun i _ => hk.1 i⟩)
    (Finset.le_fold_max (h k) |>.mpr (.inr ⟨k, Finset.mem_univ _, le_rfl⟩))

theorem toInt_small {n : ℕ} (h : n < 2 ^ 31) : (BitVec.ofNat 32 n).toInt = n := by
  rw [BitVec.toInt_eq_toNat_cond, BitVec.toNat_ofNat, Nat.mod_eq_of_lt (by omega), if_pos (by omega)]

theorem minsi_ofNat {a b : ℕ} (hab : a ≤ b) (hb : b < 2 ^ 31) :
    IntOp.minsi (BitVec.ofNat 32 a) (BitVec.ofNat 32 b) = BitVec.ofNat 32 a := by
  unfold IntOp.minsi
  split
  · rfl
  · rename_i h
    rw [BitVec.slt_eq_decide, decide_eq_true_eq, toInt_small (by omega), toInt_small (by omega)] at h
    congr 1; omega

theorem fold_of_absorbs {α β : Type} (op : β → β → β) [Std.Commutative op] [Std.Associative op] (b w : β) (f : α → β) (hb : op w b = w)
    (s : Finset α) (hf : ∀ i ∈ s, op w (f i) = w) : op w (s.fold op b f) = w := by
  classical
  induction s using Finset.induction_on with
  | empty => simpa using hb
  | insert a s ha ih =>
    rw [Finset.fold_insert ha, ← Std.Associative.assoc (op := op), hf a (Finset.mem_insert_self _ _)]
    exact ih fun i hi => hf i (Finset.mem_insert_of_mem hi)

/-- The least of increasing indices among those at which the greatest value stands. -/
theorem First.fold_min {n : ℕ} {h : Fin n → EReal} {k : Fin n} (hk : First h k) (p : Fin n → ℕ) (hp : Monotone p)
    (hlt : ∀ i, p i < 2 ^ 31) :
    Finset.univ.fold IntOp.minsi 2147483647#32
      (fun i => Scalar.select (FloatOps.cmpf (F := Ideal) (φ := .f32) .oeq (h i) (h k)) (BitVec.ofNat 32 (p i)) 2147483647#32) = BitVec.ofNat 32 (p k) := by
  classical
  have hone : ∀ i, Scalar.select (FloatOps.cmpf (F := Ideal) (φ := .f32) .oeq (h i) (h k)) (BitVec.ofNat 32 (p i)) 2147483647#32
      = if h i = h k then BitVec.ofNat 32 (p i) else 2147483647#32 := by
    intro i
    rw [Ideal.cmpf_def]; unfold Ideal.cmp Scalar.select
    by_cases e : h i = h k <;> simp [e]
  have hbig : ∀ a, a < 2 ^ 31 → IntOp.minsi (BitVec.ofNat 32 a) 2147483647#32 = BitVec.ofNat 32 a :=
    fun a ha => minsi_ofNat (b := 2147483647) (by omega) (by norm_num)
  simp only [hone]
  rw [← Finset.insert_erase (Finset.mem_univ k), Finset.fold_insert (Finset.notMem_erase _ _), if_pos rfl]
  refine fold_of_absorbs IntOp.minsi _ _ _ (hbig _ (hlt k)) _ fun i hi => ?_
  by_cases e : h i = h k
  · rw [if_pos e]
    refine minsi_ofNat (hp ?_) (hlt i)
    by_contra hlt'
    exact absurd e (ne_of_lt (hk.2 i (not_le.1 hlt')))
  · rw [if_neg e]; exact hbig _ (hlt k)

/-- A family continued by `-∞` past its end. -/
def past {N : ℕ} (f : Fin N → EReal) (n : ℕ) : EReal := if h : n < N then f ⟨n, h⟩ else ⊥

theorem past_lt {N : ℕ} (f : Fin N → EReal) {n : ℕ} (h : n < N) : past f n = f ⟨n, h⟩ := dif_pos h
theorem past_ge {N : ℕ} (f : Fin N → EReal) {n : ℕ} (h : ¬ n < N) : past f n = ⊥ := dif_neg h

/-- The first greatest place of a family cut into tiles: the first greatest tile's first greatest place. The last tile may
    reach past the family's end, but begins before it. -/
theorem gather {m b N : ℕ} (f : Fin N → EReal) (hb : 0 < b) (hN : N ≤ m * b) (hlast : ∀ t : Fin m, t.val * b < N)
    (k : Fin m → Fin b) (hk : ∀ t, First (fun j : Fin b => past f (t.val * b + j.val)) (k t))
    (T : Fin m) (hT : First (fun t => past f (t.val * b + (k t).val)) T) :
    ∃ v : Fin N, v.val = T.val * b + (k T).val ∧ First f v := by
  have hK : T.val * b + (k T).val < N := by
    by_contra hge
    have h0 : (⟨0, hb⟩ : Fin b) < k T := by
      rw [Fin.lt_def]; show 0 < (k T).val
      by_contra h0; have := hlast T; omega
    have := (hk T).2 ⟨0, hb⟩ h0
    simp only [past_ge f hge] at this
    exact absurd this not_lt_bot
  have cut : ∀ i : Fin N, ∃ (t : Fin m) (j : Fin b), i.val = t.val * b + j.val := fun i => by
    have hi : i.val / b < m := Nat.div_lt_of_lt_mul (lt_of_lt_of_le i.2 (by rwa [mul_comm] at hN))
    exact ⟨⟨i.val / b, hi⟩, ⟨i.val % b, Nat.mod_lt _ hb⟩, by simp only [mul_comm (i.val / b)]; exact (Nat.div_add_mod _ _).symm⟩
  refine ⟨⟨_, hK⟩, rfl, ?_, ?_⟩
  · intro i
    obtain ⟨t, j, e⟩ := cut i
    rw [← past_lt f hK, show f i = past f i.val from (past_lt f i.2).symm, e]
    exact ((hk t).1 j).trans (hT.1 t)
  · intro i hi
    obtain ⟨t, j, e⟩ := cut i
    rw [← past_lt f hK, show f i = past f i.val from (past_lt f i.2).symm, e]
    rw [Fin.lt_def] at hi
    simp only [e] at hi
    rcases lt_trichotomy t T with c | c | c
    · exact lt_of_le_of_lt ((hk t).1 j) (hT.2 t c)
    · subst c
      exact (hk t).2 j (by rw [Fin.lt_def]; omega)
    · exfalso
      rw [Fin.lt_def] at c
      have : (T.val + 1) * b ≤ t.val * b := Nat.mul_le_mul_right _ c
      have := (k T).2
      rw [add_mul, one_mul] at *
      omega

/-! ## By one fold over pairs -/

/-- The pair `q` does not come before the pair `p`: its value is less, or equal with an index not less. -/
def Upto (q p : EReal × BitVec 32) : Prop := q.1 < p.1 ∨ (q.1 = p.1 ∧ p.2.toInt ≤ q.2.toInt)

theorem Upto.refl (p : EReal × BitVec 32) : Upto p p := .inr ⟨rfl, le_rfl⟩

theorem Upto.trans {a b c : EReal × BitVec 32} (h : Upto a b) (h' : Upto b c) : Upto a c := by
  rcases h with h | ⟨h, i⟩ <;> rcases h' with h' | ⟨h', i'⟩
  · exact .inl (h.trans h')
  · exact .inl (h' ▸ h)
  · exact .inl (h ▸ h')
  · exact .inr ⟨h.trans h', i'.trans i⟩

/-- The reducer keeps one of its two pairs, and neither comes before it. -/
theorem reducer_pick (a b : EReal × BitVec 32) :
    (Cert.ReferenceIdeal.reducer_argmax_f32_i32 (F := Ideal) a b = a ∨ Cert.ReferenceIdeal.reducer_argmax_f32_i32 (F := Ideal) a b = b)
      ∧ Upto a (Cert.ReferenceIdeal.reducer_argmax_f32_i32 (F := Ideal) a b) ∧ Upto b (Cert.ReferenceIdeal.reducer_argmax_f32_i32 (F := Ideal) a b) := by
  obtain ⟨x, i⟩ := a
  obtain ⟨y, j⟩ := b
  have key : Cert.ReferenceIdeal.reducer_argmax_f32_i32 (F := Ideal) (x, i) (y, j)
      = if y < x then (x, i) else if x = y ∧ i.toInt < j.toInt then (y, i) else (y, j) := by
    unfold Cert.ReferenceIdeal.reducer_argmax_f32_i32
    simp only [Ideal.cmpf_def, Ideal.cmp, IntOp.cmpi, IntOp.ori, IntOp.andi, Scalar.select, BitVec.slt_eq_decide]
    by_cases h1 : y < x <;> by_cases h2 : x = y <;> by_cases h3 : i.toInt < j.toInt <;> simp [h1, h2, h3]
  rw [key]
  split
  · rename_i h; exact ⟨.inl rfl, .refl _, .inl h⟩
  · rename_i h
    split
    · rename_i h'
      obtain ⟨rfl, h'⟩ := h'
      exact ⟨.inl rfl, .refl _, .inr ⟨rfl, h'.le⟩⟩
    · rename_i h'
      refine ⟨.inr rfl, ?_, .refl _⟩
      rcases lt_or_eq_of_le (not_lt.1 h) with c | c
      · exact .inl c
      · exact .inr ⟨c, not_lt.1 fun q => h' ⟨c, q⟩⟩

theorem foldl_pick (L : List (EReal × BitVec 32)) : ∀ p : EReal × BitVec 32,
    (L.foldl (Cert.ReferenceIdeal.reducer_argmax_f32_i32 (F := Ideal)) p = p ∨ L.foldl (Cert.ReferenceIdeal.reducer_argmax_f32_i32 (F := Ideal)) p ∈ L)
      ∧ Upto p (L.foldl (Cert.ReferenceIdeal.reducer_argmax_f32_i32 (F := Ideal)) p)
      ∧ ∀ q ∈ L, Upto q (L.foldl (Cert.ReferenceIdeal.reducer_argmax_f32_i32 (F := Ideal)) p) := by
  induction L with
  | nil => exact fun p => ⟨.inl rfl, .refl _, fun q hq => absurd hq List.not_mem_nil⟩
  | cons a L ih =>
    intro p
    obtain ⟨hm, hp, hq⟩ := ih (Cert.ReferenceIdeal.reducer_argmax_f32_i32 (F := Ideal) p a)
    obtain ⟨hm', hp', ha'⟩ := reducer_pick p a
    rw [List.foldl_cons]
    refine ⟨?_, hp'.trans hp, fun q hq' => ?_⟩
    · rcases hm with e | e
      · generalize hr : List.foldl _ _ L = r at e ⊢
        rw [e]
        rcases hm' with e' | e'
        · exact .inl e'
        · exact .inr (by rw [e']; exact List.mem_cons_self)
      · exact .inr (List.mem_cons_of_mem _ e)
    · rcases List.mem_cons.mp hq' with rfl | hq'
      · exact ha'.trans hp
      · exact hq q hq'

/-- The fold over the pairs of a family and its indices, in any order and from `(-∞, 0)`, ends at the first greatest place. -/
theorem First.foldl {n : ℕ} {h : Fin n → EReal} {k : Fin n} (hk : First h k) (hn : n ≤ 2 ^ 31) (L : List (EReal × BitVec 32))
    (hL : ∀ q, q ∈ L ↔ ∃ i : Fin n, q = (h i, BitVec.ofNat 32 i.val)) :
    (L.foldl (Cert.ReferenceIdeal.reducer_argmax_f32_i32 (F := Ideal)) (⊥, 0#32)).2 = BitVec.ofNat 32 k.val := by
  obtain ⟨hm, -, hq⟩ := foldl_pick L (⊥, 0#32)
  set p := L.foldl (Cert.ReferenceIdeal.reducer_argmax_f32_i32 (F := Ideal)) (⊥, 0#32)
  have hkp := hq _ ((hL _).mpr ⟨k, rfl⟩)
  have hkn := k.2
  rcases hm with e | e
  · rw [e] at hkp ⊢
    rcases hkp with c | ⟨c, -⟩
    · exact absurd c not_lt_bot
    · have : k.val = 0 := by
        by_contra h0
        have := hk.2 ⟨0, by omega⟩ (Fin.lt_def.2 (Nat.pos_of_ne_zero h0))
        rw [show h k = ⊥ from c] at this
        exact absurd this not_lt_bot
      rw [this]
  · obtain ⟨v, ev⟩ := (hL p).mp e
    rw [ev] at hkp ⊢
    have hvn := v.2
    rcases hkp with c | ⟨c, d⟩
    · exact absurd c (not_lt.2 (hk.1 v))
    · simp only at c d
      rw [toInt_small (by omega), toInt_small (by omega)] at d
      have : v = k := by
        by_contra hne
        have hlt : v < k := lt_of_le_of_ne (Fin.le_def.2 (by exact_mod_cast d)) hne
        exact absurd c.symm (ne_of_lt (hk.2 v hlt))
      rw [this]

end

end Cert.Proof.Pick

end
-- ==== Proof.Region0.lean ====
/-
  The first kernel of the program, one grid point per tile of 4096 columns: what its body leaves in the three output
  blocks, the proof data of its pipeline, and its region. The last tile reaches past the last column, so the blocks of
  the transposed weights and of the bias hold there whatever the buffer held before; the body's results are therefore
  stated relationally, at SOME contents of that part.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Value
public import Idealize.ShloMosaic.Lib.Pipeline.DatRel
public import Idealize.ShloMosaic.Lib.Pipeline.RegionsLoop
public import Idealize.ShloMosaic.Lib.Tactic

@[expose] public section

noncomputable section

namespace Cert.Proof.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-- One copy of the pipeline library's algebra per kernel of the program. -/
abbrev UU : Type := UR sig nD τ × UR sig nD τ

local notation "𝕄" => MT nD τ sig Unit (Elt F) ℕ UU ℕ

abbrev 𝒱₀ : Variants := Variants.none
/-- No core owes another anything: no level is assigned. -/
abbrev L : GSem nD τ sig → Finset Unit := fun _ => ∅
abbrev lv : GSem nD τ sig → Unit → ℕ := fun _ _ => 0

/-- Proof data for a pipeline that a ticket does not run: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-! ## What the body computes -/

/-- The two words of the generator's state before its last four rounds, at each element of the tile at point `i`. -/
def mid1 (i : grid0.Coords) : IVec S64x4096 32 :=
  k0_pay34 (k0_pay21 (k0_pay9 i) (k0_pay10 i) (k0_pay11 i)) (k0_pay22 (k0_pay9 i) (k0_pay10 i) (k0_pay11 i)) k0_pay23
def mid2 (i : grid0.Coords) : IVec S64x4096 32 :=
  k0_pay35 (k0_pay21 (k0_pay9 i) (k0_pay10 i) (k0_pay11 i)) (k0_pay22 (k0_pay9 i) (k0_pay10 i) (k0_pay11 i)) k0_pay23

/-- The tile's greatest score in each row, from the tile's logits. -/
def topBlk (i : grid0.Coords) (lg : FVec F S64x4096 .f32) : FVec F S1x64x1 .f32 :=
  k0_pay1 (k0_pay48 lg (k0_pay4 i) (k0_pay45 (mid1 i) (mid2 i)) (k0_pay46 (mid1 i) (mid2 i)))
/-- The least column of the tile at which each row's greatest score stands. -/
def argBlk (i : grid0.Coords) (lg : FVec F S64x4096 .f32) : IVec S1x64x1 32 :=
  k0_pay2 (k0_pay4 i) (k0_pay49 lg (k0_pay4 i) (k0_pay45 (mid1 i) (mid2 i)) (k0_pay46 (mid1 i) (mid2 i))) k0_pay50

theorem z2 : (![0, 0] : Fin 2 → Nat) = fun _ => 0 := by decide
theorem z3 : (![0, 0, 0] : Fin 3 → Nat) = fun _ => 0 := by decide

/-- A buffer after one store over the whole of it reads as what was stored. -/
theorem read_store_whole {sig : RefSig} {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans (View.canon_unit_zero h inb w)

set_option maxHeartbeats 4000000 in
/-- The body on whole staging buffers, the inputs' at `x`, `w`, `b` and the outputs' at anything: it leaves the inputs as
    they were and the outputs at the tile's logits, each row's greatest score and that score's column. -/
theorem body_run (c : Dev nD) (E : Set ℕ) (i : grid0.Coords) (M1 : Memref sig .tc .vmem S64x1024 .f32) (h1 : M1.IsWhole)
    (M2 : Memref sig .tc .vmem S4096x1024 .f32) (h2 : M2.IsWhole) (M3 : Memref sig .tc .vmem S1x4096 .f32) (h3 : M3.IsWhole)
    (M4 : Memref sig .tc .vmem S64x4096 .f32) (h4 : M4.IsWhole) (M5 : Memref sig .tc .vmem S1x64x1 .f32) (h5 : M5.IsWhole)
    (M6 : Memref sig .tc .vmem S1x64x1 .i32) (h6 : M6.IsWhole)
    (x : Vec F S64x1024 .f32) (w : Vec F S4096x1024 .f32) (b : Vec F S1x4096 .f32) (K : PUnit → sProp 𝕄) :
    iprop(owns (c : Thread nD τ) M1 fullShare x ∗ owns (c : Thread nD τ) M2 fullShare w ∗ owns (c : Thread nD τ) M3 fullShare b
        ∗ (∃ d, owns (c : Thread nD τ) M4 fullShare d) ∗ (∃ d, owns (c : Thread nD τ) M5 fullShare d) ∗ (∃ d, owns (c : Thread nD τ) M6 fullShare d)
        ∗ (iprop(owns (c : Thread nD τ) M1 fullShare x ∗ owns (c : Thread nD τ) M2 fullShare w ∗ owns (c : Thread nD τ) M3 fullShare b
            ∗ owns (c : Thread nD τ) M4 fullShare (k0_pay3 x w b) ∗ owns (c : Thread nD τ) M5 fullShare (topBlk i (k0_pay3 x w b))
            ∗ owns (c : Thread nD τ) M6 fullShare (argBlk (F := F) i (k0_pay3 x w b))) -∗ K ⟨⟩))
      ⊢ wp frame (wpE (defs₀ (F := F)) Variants.none c none) E (cc0__fused_kernel i M1 h1 M2 h2 M3 h3 M4 h4 M5 h5 M6 h6) K := by
  simp only [cc0__fused_kernel_eq_skeleton, k0_part1_eq_skeleton, k0_part2_eq_skeleton, k0_part3_eq_skeleton, k0_part4_eq_skeleton, k0_part5_eq_skeleton]
  unfold cc0__fused_kernel_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, Hk⟩
  sl_exec
  sl_step
  iapply Hk
  isplitl [H1]; · iexists f1; isplitr; (· ipureintro; exact hf1); iexact H1
  isplitl [H2]; · iexists f2; isplitr; (· ipureintro; exact hf2); iexact H2
  isplitl [H3]; · iexists f3; isplitr; (· ipureintro; exact hf3); iexact H3
  have e1 : View.readAt (Elt F) M1.view (Rect.unit (s := S64x1024) ![0, 0] S64x1024.size inb_S64x1024_S64x1024_0_0).toLoadRect f1 = x := by
    rw [View.readAt_eq_ld, View.ld_unit_zero z2]; exact hf1
  have e2 : View.readAt (Elt F) M2.view (Rect.unit (s := S4096x1024) ![0, 0] S4096x1024.size inb_S4096x1024_S4096x1024_0_0).toLoadRect f2 = w := by
    rw [View.readAt_eq_ld, View.ld_unit_zero z2]; exact hf2
  have e3 : View.readAt (Elt F) M3.view (Rect.unit (s := S1x4096) ![0, 0] S1x4096.size inb_S1x4096_S1x4096_0_0).toLoadRect f3 = b := by
    rw [View.readAt_eq_ld, View.ld_unit_zero z2]; exact hf3
  isplitl [H4]
  · iexists _; isplitr
    swap; · iexact H4
    ipureintro
    refine (read_store_whole _ _ z2 _ _).trans ?_
    rw [e1, e2, e3]
  isplitl [H5]
  · iexists _; isplitr
    swap; · iexact H5
    ipureintro
    refine (read_store_whole _ _ z3 _ _).trans ?_
    rw [← e1, ← e2, ← e3]; rfl
  iexists _; isplitr
  swap; · iexact H6
  ipureintro
  refine (read_store_whole _ _ z3 _ _).trans ?_
  rw [← e1, ← e2, ← e3]; rfl

/-! ## The pipeline's proof data -/

variable (V : (c : Dev nD) → (b : Ref sig .tc) → Buf (Elt F) ((c : Thread nD τ).loc b))

/-- The blocks of the arrays that the three input windows stage at point `t`, as far as they lie inside the arrays. -/
def xblk (c : Dev nD) (t : Fin cfg0.N) : Vec F S64x1024 .f32 := ((cfg0.win 0).blk t).view.read (Elt F) (V c main_arg0)
def wcut (c : Dev nD) (t : Fin cfg0.N) : ((cfg0.win 1).xblock (grid0.coords t)).Idx → Elt F .f32 := ((cfg0.win 1).blk t).view.read (Elt F) (V c main_v0)
def bcut (c : Dev nD) (t : Fin cfg0.N) : ((cfg0.win 2).xblock (grid0.coords t)).Idx → Elt F .f32 := ((cfg0.win 2).blk t).view.read (Elt F) (V c main_v1)
/-- The weights' and the bias's staging buffers at point `t` when the rest of them holds `d`. -/
def wpad (c : Dev nD) (t : Fin cfg0.N) (d : Vec F S4096x1024 .f32) : Vec F S4096x1024 .f32 := (cfg0.win 1).fill (grid0.coords t) d (wcut V c t)
def bpad (c : Dev nD) (t : Fin cfg0.N) (d : Vec F S1x4096 .f32) : Vec F S1x4096 .f32 := (cfg0.win 2).fill (grid0.coords t) d (bcut V c t)

/-- The tile's logits when the two buffers' rests hold `d1` and `d2`. -/
def lgPad (c : Dev nD) (t : Fin cfg0.N) (d1 : Vec F S4096x1024 .f32) (d2 : Vec F S1x4096 .f32) : FVec F S64x4096 .f32 :=
  k0_pay3 (xblk V c t) (wpad V c t d1) (bpad V c t d2)

/-- The proof data of the first pipeline on core `c`, entered at `V`: the arrays there, the input buffers left as fetched,
    nothing said of the outputs (they are held to `Rl`), the scoped buffers not staged carried along, nothing owed. -/
def dat0 (c : Dev nD) : Dat τ (Elt F) Unit ℕ UU ℕ cfg0 c where
  A w := V c (Pipeline.arrRef spec0 w)
  after w t := match w with
    | ⟨0, _⟩ => xblk V c t
    | ⟨1, _⟩ => wpad V c t (fun _ => Classical.arbitrary (Elt F (cfg0.win 1).elt))
    | ⟨2, _⟩ => bpad V c t (fun _ => Classical.arbitrary (Elt F (cfg0.win 2).elt))
    | ⟨3, _⟩ => fun _ => Classical.arbitrary _
    | ⟨4, _⟩ => fun _ => Classical.arbitrary _
    | ⟨5, _⟩ => fun _ => Classical.arbitrary _
    | ⟨_ + 6, h⟩ => absurd h (Nat.not_lt.2 (Nat.le_add_left _ _))
  Φ _ := Pipeline.scopedRest (Ix := Unit) (Name := ℕ) (U := UU) (Lvl := ℕ) (Val := Elt F) spec0 c
  q _ := fullShare
  owed _ := 0

/-- The windows held to a relation: the three outputs. -/
def fgt : Fin cfg0.W → Bool := fun | 3 => true | 4 => true | 5 => true | _ => false

/-- What the body leaves in an output's buffer at point `t`: its result at SOME contents of the buffers' rests. -/
def Rl (c : Dev nD) (w : Fin cfg0.W) (t : Fin cfg0.N) : ((cfg0.win w).block.Idx → Elt F (cfg0.win w).elt) → Prop :=
  match w with
  | ⟨3, _⟩ => fun X => ∃ d1 d2, X = lgPad V c t d1 d2
  | ⟨4, _⟩ => fun X => ∃ d1 d2, X = topBlk (grid0.coords t) (lgPad V c t d1 d2)
  | ⟨5, _⟩ => fun X => ∃ d1 d2, X = argBlk (F := F) (grid0.coords t) (lgPad V c t d1 d2)
  | _ => fun _ => True

/-- The relational data of the region. -/
abbrev rdat0 (c : Dev nD) : RDat τ (Elt F) Unit ℕ UU ℕ cfg0 c := (dat0 V c).toRRel fgt (Rl V c)

theorem before0 (c : Dev nD) (t : Fin cfg0.N) (d) : (dat0 V c).before 0 t d = xblk V c t :=
  ((dat0 V c).before_in_eq_fetched 0 rfl (fun _ => rfl) (fun _ _ _ => rfl) (fun _ => rfl) t d).trans rfl
theorem before1 (c : Dev nD) (t : Fin cfg0.N) (d) : (dat0 V c).before 1 t d = wpad V c t d := by
  unfold Dat.before; rw [if_pos (fetch0_1 t)]; rfl
theorem before2 (c : Dev nD) (t : Fin cfg0.N) (d) : (dat0 V c).before 2 t d = bpad V c t d := by
  unfold Dat.before; rw [if_pos (fetch0_2 t)]; rfl

theorem cut1 (c : Dev nD) (t : Fin cfg0.N) : (cfg0.win 1).cut (grid0.coords t) ((dat0 V c).after 1 t) = wcut V c t :=
  (cfg0.win 1).cut_fill _ _ _
theorem cut2 (c : Dev nD) (t : Fin cfg0.N) : (cfg0.win 2).cut (grid0.coords t) ((dat0 V c).after 2 t) = bcut V c t :=
  (cfg0.win 2).cut_fill _ _ _

theorem defs₀_row0 (t : Fin cfg0.N) : defs₀ (F := F) .tc cfg0.body (cfg0.bodyArgs t (cfg0.slots t)) = bodyAt0 t := by
  unfold defs₀; rw [Defs.onTc_tc]

/-- The body at any point, from what the pipeline hands it to what the relation asks. -/
theorem body_obligation0 (c : Dev nD) : Pipeline.BodyObligationRel (dat0 V c) (defs₀ (F := F)) 𝒱₀ () Set.univ fgt (Rl V c) := fun t => by
  rw [bigSep_W0, bigSep_W0, defs₀_row0]
  rw [show (dat0 V c).Φ t.succ = (dat0 V c).Φ t.castSucc from rfl, show (dat0 V c).owesAt () t.succ = (dat0 V c).owesAt () t.castSucc from rfl]
  simp only [fgt, before0, before1, before2]
  iintro ⟨HΦ, Ho, ⟨%d0, H0⟩, ⟨%d1, H1⟩, ⟨%d2, H2⟩, ⟨%d3, %_, H3⟩, ⟨%d4, %_, H4⟩, ⟨%d5, %_, H5⟩⟩
  iapply (body_run c Set.univ (grid0.coords t) _ _ _ _ _ _ _ _ _ _ _ _ (xblk V c t) (wpad V c t d1) (bpad V c t d2) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]
  · iexists d1; rw [cut1]; iexact H1
  isplitl [H2]
  · iexists d2; rw [cut2]; iexact H2
  isplitl [H3]; · iexists _; isplitr; swap; (· iexact H3); ipureintro; exact ⟨d1, d2, rfl⟩
  isplitl [H4]; · iexists _; isplitr; swap; (· iexact H4); ipureintro; exact ⟨d1, d2, rfl⟩
  iexists _; isplitr; swap; (· iexact H5); ipureintro; exact ⟨d1, d2, rfl⟩

end Cert.Proof.Tiles

end
-- ==== Proof.Words.lean ====
/-
  The counter hash both programs draw their random bits from, as a function of one word, and the kernel's text of it:
  what its named values hold at an element of the tile.
-/
module

public import proofs.«01_k».proof.Proof.Region0
public import Idealize.ShloMosaic.Lib.KernelVsHost

@[expose] public section

noncomputable section

namespace Cert.Proof.Words

open Idealize.ShloMosaic

/-- A state of the hash: two words. -/
abbrev St : Type := BitVec 32 × BitVec 32

/-- One turn: add, turn the second word left by `s` (`s'` completes `s` to the width), and mix. -/
def turn (s s' : BitVec 32) (p : St) : St :=
  (IntOp.addi p.1 p.2, IntOp.xori (IntOp.addi p.1 p.2) (IntOp.ori (IntOp.shli .vector p.2 s) (IntOp.shrui .vector p.2 s')))

/-- A part of the key put in. -/
def inject (k d : BitVec 32) (p : St) : St := (IntOp.addi p.1 k, IntOp.addi p.2 d)

/-- Four turns of the one kind and of the other. -/
def odd (p : St) : St := turn 6 26 (turn 26 6 (turn 15 17 (turn 13 19 p)))
def even (p : St) : St := turn 24 8 (turn 16 16 (turn 29 3 (turn 17 15 p)))

/-- The state the hash ends in at the counter `n`, under the key (0, 42). -/
def hashed (n : BitVec 32) : St :=
  inject 466689008 5 (odd (inject 42 466689012 (even (inject 0 45 (odd (inject 466689008 2 (even
    (inject 42 466689009 (odd (0, IntOp.addi n 42))))))))))

/-- The random word of the counter `n`. -/
def bits (n : BitVec 32) : BitVec 32 := IntOp.xori (hashed n).1 (hashed n).2

theorem turn_eq (s s' a b : BitVec 32) :
    turn s s' (a, b) = (IntOp.addi a b, IntOp.xori (IntOp.ori (IntOp.shli .vector b s) (IntOp.shrui .vector b s')) (IntOp.addi a b)) :=
  Prod.ext rfl (BitVec.xor_comm _ _)

/-! ## The kernel's text -/

open Cert.KernelIdeal Cert.KernelIdeal.Gen Cert.Proof.Tiles

/-- Two blocks of words at an element. -/
def at2 (a b : IVec S64x4096 32) (j : S64x4096.Idx) : St := (a j, b j)

theorem first_stretch (i : grid0.Coords) (j : S64x4096.Idx) :
    at2 (k0_pay10 i) (k0_pay12 (k0_pay9 i) (k0_pay10 i) (k0_pay11 i)) j = turn 26 6 (turn 15 17 (turn 13 19 (0, k0_pay5 i j))) := by
  have h1 : turn 13 19 (0, k0_pay5 i j) = at2 (k0_pay6 i) (k0_pay7 i) j := (turn_eq _ _ _ _).trans rfl
  have h2 : turn 15 17 (at2 (k0_pay6 i) (k0_pay7 i) j) = at2 (k0_pay8 i) (k0_pay9 i) j := (turn_eq _ _ _ _).trans rfl
  have h3 : turn 26 6 (at2 (k0_pay8 i) (k0_pay9 i) j) = at2 (k0_pay10 i) (k0_pay12 (k0_pay9 i) (k0_pay10 i) (k0_pay11 i)) j :=
    (turn_eq _ _ _ _).trans rfl
  rw [h1, h2, h3]

theorem second_stretch (a b c : IVec S64x4096 32) (j : S64x4096.Idx) :
    at2 (k0_pay21 a b c) (k0_pay22 a b c) j = even (inject 42 466689009 (turn 6 26 (at2 b (k0_pay12 a b c) j))) := by
  have h1 : inject 42 466689009 (turn 6 26 (at2 b (k0_pay12 a b c) j)) = (IntOp.addi (k0_pay13 a b c j) 42, k0_pay14 a b c j) := by
    unfold at2; rw [turn_eq]; rfl
  have h2 : turn 17 15 (IntOp.addi (k0_pay13 a b c j) 42, k0_pay14 a b c j) = at2 (k0_pay15 a b c) (k0_pay16 a b c) j := (turn_eq _ _ _ _).trans rfl
  have h3 : turn 29 3 (at2 (k0_pay15 a b c) (k0_pay16 a b c) j) = at2 (k0_pay17 a b c) (k0_pay18 a b c) j := (turn_eq _ _ _ _).trans rfl
  have h4 : turn 16 16 (at2 (k0_pay17 a b c) (k0_pay18 a b c) j) = at2 (k0_pay19 a b c) (k0_pay20 a b c) j := (turn_eq _ _ _ _).trans rfl
  have h5 : turn 24 8 (at2 (k0_pay19 a b c) (k0_pay20 a b c) j) = at2 (k0_pay21 a b c) (k0_pay22 a b c) j := (turn_eq _ _ _ _).trans rfl
  unfold even; rw [h1, h2, h3, h4, h5]

theorem third_stretch (a b : IVec S64x4096 32) (j : S64x4096.Idx) :
    at2 (k0_pay35 a b k0_pay23) (k0_pay36 (k0_pay34 a b k0_pay23) (k0_pay35 a b k0_pay23)) j
      = turn 29 3 (turn 17 15 (inject 0 45 (odd (inject 466689008 2 (at2 a b j))))) := by
  have h1 : turn 13 19 (inject 466689008 2 (at2 a b j)) = at2 (k0_pay25 a b k0_pay23) (k0_pay26 a b k0_pay23) j := (turn_eq _ _ _ _).trans rfl
  have h2 : turn 15 17 (at2 (k0_pay25 a b k0_pay23) (k0_pay26 a b k0_pay23) j) = at2 (k0_pay27 a b k0_pay23) (k0_pay28 a b k0_pay23) j :=
    (turn_eq _ _ _ _).trans rfl
  have h3 : turn 26 6 (at2 (k0_pay27 a b k0_pay23) (k0_pay28 a b k0_pay23) j) = at2 (k0_pay29 a b k0_pay23) (k0_pay30 a b k0_pay23) j :=
    (turn_eq _ _ _ _).trans rfl
  have h4 : inject 0 45 (turn 6 26 (at2 (k0_pay29 a b k0_pay23) (k0_pay30 a b k0_pay23) j))
      = (IntOp.addi (k0_pay31 a b k0_pay23 j) 0, k0_pay32 a b k0_pay23 j) := by
    unfold at2; rw [turn_eq]; rfl
  have h5 : turn 17 15 (IntOp.addi (k0_pay31 a b k0_pay23 j) 0, k0_pay32 a b k0_pay23 j) = at2 (k0_pay33 a b k0_pay23) (k0_pay34 a b k0_pay23) j :=
    (turn_eq _ _ _ _).trans rfl
  have h6 : turn 29 3 (at2 (k0_pay33 a b k0_pay23) (k0_pay34 a b k0_pay23) j)
      = at2 (k0_pay35 a b k0_pay23) (k0_pay36 (k0_pay34 a b k0_pay23) (k0_pay35 a b k0_pay23)) j := (turn_eq _ _ _ _).trans rfl
  unfold odd; rw [h1, h2, h3, h4, h5, h6]

/-- The two words at the end of the fourth stretch, the second with its last mixing done. -/
def last (a b : IVec S64x4096 32) (j : S64x4096.Idx) : St := (k0_pay45 a b j, IntOp.xori (k0_pay46 a b j) (k0_pay45 a b j))

theorem fourth_stretch (a b : IVec S64x4096 32) (j : S64x4096.Idx) :
    last a b j = turn 26 6 (turn 15 17 (turn 13 19 (inject 42 466689012 (turn 24 8 (turn 16 16 (at2 b (k0_pay36 a b) j)))))) := by
  have h1 : turn 16 16 (at2 b (k0_pay36 a b) j) = at2 (k0_pay37 a b) (k0_pay38 a b) j := (turn_eq _ _ _ _).trans rfl
  have h2 : inject 42 466689012 (turn 24 8 (at2 (k0_pay37 a b) (k0_pay38 a b) j)) = (IntOp.addi (k0_pay39 a b j) 42, k0_pay40 a b j) := by
    unfold at2; rw [turn_eq]; rfl
  have h3 : turn 13 19 (IntOp.addi (k0_pay39 a b j) 42, k0_pay40 a b j) = at2 (k0_pay41 a b) (k0_pay42 a b) j := (turn_eq _ _ _ _).trans rfl
  have h4 : turn 15 17 (at2 (k0_pay41 a b) (k0_pay42 a b) j) = at2 (k0_pay43 a b) (k0_pay44 a b) j := (turn_eq _ _ _ _).trans rfl
  have h5 : turn 26 6 (at2 (k0_pay43 a b) (k0_pay44 a b) j) = last a b j := (turn_eq _ _ _ _).trans rfl
  rw [h1, h2, h3, h4, h5]

/-- The kernel's two words before its last four rounds, taken to the end, are the hash of its counter. -/
theorem kernel_hashed (i : grid0.Coords) (j : S64x4096.Idx) (n : BitVec 32) (hn : k0_pay5 i j = IntOp.addi n 42) :
    inject 466689008 5 (turn 6 26 (last (mid1 i) (mid2 i) j)) = hashed n := by
  rw [fourth_stretch]
  unfold mid1 mid2
  rw [third_stretch, second_stretch, first_stretch, hn]
  rfl

end Cert.Proof.Words

end
-- ==== Proof.Spec.lean ====
/-
  What both programs compute, over the extended reals: a logit, the noise of a counter, and the score whose first
  greatest column is chosen.
-/
module

public import proofs.«01_k».proof.Proof.Pick
public import proofs.«01_k».proof.Proof.Words
public import Idealize.ShloMosaic.Lib.ValueIdx
public import Idealize.ShloMosaic.Lib.Pointwise

@[expose] public section

noncomputable section

namespace Cert.Proof.Spec

open Idealize.ShloMosaic
open Cert.Proof.Pick

/-- The logit of a row and a column. -/
def logit (X : (⟨2, ![64, 1024]⟩ : Shape).Idx → EReal) (W : (⟨2, ![1024, 100000]⟩ : Shape).Idx → EReal) (B : (⟨1, ![100000]⟩ : Shape).Idx → EReal)
    (r : Fin 64) (v : Fin 100000) : EReal :=
  (∑ k : Fin 1024, X (ix2 r k) * W (ix2 k v)) + B (ix1 v)

/-- The least positive normal number. -/
def tiny : EReal := Ideal.ofBits .f32 0x00800000#32

/-- A random word as a number in [0, 1): its upper bits are the fraction of a number in [1, 2). -/
def unit (w : BitVec 32) : EReal := Ideal.ofBits .f32 (IntOp.ori (IntOp.shrui .vector w 9) 1065353216) - 1

/-- The noise of a random word. -/
def noise (w : BitVec 32) : EReal := -Ideal.log (-Ideal.log (max (unit w + tiny) tiny))

/-- The counter of a row and a column. -/
def counter (r : Fin 64) (v : ℕ) : BitVec 32 := BitVec.ofNat 32 (r.val * 100000 + v)

/-- The noise at a row and a column. -/
def gumbel (r : Fin 64) (v : ℕ) : EReal := noise (Words.bits (counter r v))

/-- The score of a row and a column. -/
def score (X : (⟨2, ![64, 1024]⟩ : Shape).Idx → EReal) (W : (⟨2, ![1024, 100000]⟩ : Shape).Idx → EReal) (B : (⟨1, ![100000]⟩ : Shape).Idx → EReal)
    (r : Fin 64) (v : Fin 100000) : EReal := logit X W B r v + gumbel r v.val

/-- Cutting off below zero before the least normal number is added changes nothing once that number cuts it off. -/
theorem cut_tiny (f t : EReal) : max t (max 0 f + t) = max (f + t) t := by
  rcases le_total f 0 with h | h
  · rw [max_eq_left h, zero_add, max_self]
    exact (max_eq_right (by simpa using add_le_add_left h t)).symm
  · rw [max_eq_right h, max_comm]

/-- A real number added to the scores of a row on the other side. -/
theorem add_real (l n : EReal) (c : ℝ) : n + (l + (c : EReal)) = l + n + (c : EReal) := by
  rw [← add_assoc, add_comm n l]

end Cert.Proof.Spec

end
-- ==== Proof.Fold.lean ====
/-
  The kernels' reductions over the extended reals, on any blocks: the greatest of a row, and the least of the columns it
  stands at.
-/
module

public import proofs.«01_k».proof.Proof.Spec

@[expose] public section

noncomputable section

namespace Cert.Proof.Tiles

open Cert.KernelIdeal Cert.KernelIdeal.Gen
open Idealize.ShloMosaic
open Cert.Proof.Pick

theorem row_top (S : FVec Ideal S64x4096 .f32) (r : Fin 64) :
    k0_pay1 (F := Ideal) (shapeCast S64x1 (multiReduction .maximumf [1] S64 S 0xFF800000#32 reduces_S64x4096_S64 (.inl rfl) rfl) shapeCasts_S64_S64x1)
        (ix3 (0 : Fin 1) r (0 : Fin 1))
      = Finset.univ.fold max (Ideal.ofBits .f32 0xFF800000#32) fun j : Fin 4096 => S (ix2 r j) := by
  unfold k0_pay1
  pointwise

theorem row_top' (S : FVec Ideal S64x4096 .f32) (r : Fin 64) (j : Fin 4096) :
    broadcastTo S64x4096 (shapeCast S64x1 (multiReduction .maximumf [1] S64 S 0xFF800000#32 reduces_S64x4096_S64 (.inl rfl) rfl) shapeCasts_S64_S64x1) broadcasts_S64x1_S64x4096
        (ix2 r j)
      = Finset.univ.fold max (Ideal.ofBits .f32 0xFF800000#32) fun j : Fin 4096 => S (ix2 r j) := by
  pointwise

theorem row_least (col : IVec S64x4096 32) (p : IVec S64x4096 1) (q : IVec S64x4096 32) (r : Fin 64) :
    k0_pay2 col p q (ix3 (0 : Fin 1) r (0 : Fin 1))
      = Finset.univ.fold IntOp.minsi 2147483647#32 fun j : Fin 4096 => Scalar.select (p (ix2 r j)) (col (ix2 r j)) (q (ix2 r j)) := by
  unfold k0_pay2
  pointwise

end Cert.Proof.Tiles

end
-- ==== Proof.Tile.lean ====
/-
  The kernels' blocks over the extended reals, element by element, on any contents: a tile's logits, its scores, the
  greatest of them and the least column it stands at, and the same over the tiles.
-/
module

public import proofs.«01_k».proof.Proof.Spec

@[expose] public section

noncomputable section

namespace Cert.Proof.Tiles

open Cert.KernelIdeal Cert.KernelIdeal.Gen
open Idealize.ShloMosaic
open Cert.Proof.Pick

theorem neg_inf : Ideal.ofBits .f32 0xFF800000#32 = (⊥ : EReal) := by simp [Ideal.ofBits, Ideal.ieee]

theorem logit_at (x : Vec Ideal S64x1024 .f32) (w : Vec Ideal S4096x1024 .f32) (b : Vec Ideal S1x4096 .f32) (r : Fin 64) (j : Fin 4096) :
    k0_pay3 x w b (ix2 r j) = (∑ k : Fin 1024, x (ix2 r k) * w (ix2 j k)) + b (ix2 (0 : Fin 1) j) := by
  unfold k0_pay3
  pointwise

/-- A tile's column numbers, as words. -/
theorem column_at (i : grid0.Coords) (r : Fin 64) (j : Fin 4096) : k0_pay4 i (ix2 r j) = BitVec.ofNat 32 ((i 0).val * 4096 + j.val) := by
  have h : ∀ x : IVec S64x4096 32, addi x (broadcast S64x4096 (Scalar.muli (BitVec.ofNat 32 (i 0).val) 4096#32)) (ix2 r j)
      = x (ix2 r j) + BitVec.ofNat 32 (i 0).val * BitVec.ofNat 32 4096 := fun _ => rfl
  have h' : k0_pay4 i = addi (iota .tc S64x4096 32 [1] iota_S64x4096_d1_w32) (broadcast S64x4096 (Scalar.muli (BitVec.ofNat 32 (i 0).val) 4096#32)) := rfl
  have hi : iota .tc S64x4096 32 [1] iota_S64x4096_d1_w32 (ix2 r j) = BitVec.ofNat 32 (0 * 4096 + j.val) := rfl
  rw [h', h, hi, zero_mul, zero_add, BitVec.ofNat_add, BitVec.ofNat_mul, BitVec.add_comm]

theorem counter_at (i : grid0.Coords) (r : Fin 64) (j : Fin 4096) :
    k0_pay5 i (ix2 r j) = IntOp.addi (Spec.counter r ((i 0).val * 4096 + j.val)) 42 := by
  have h : ∀ x y : IVec S64x4096 32, addi (addi (muli x (broadcast S64x4096 100000#32)) y) (broadcast S64x4096 42#32) (ix2 r j)
      = IntOp.addi (x (ix2 r j) * BitVec.ofNat 32 100000 + y (ix2 r j)) 42 := fun _ _ => rfl
  have h' : k0_pay5 i = addi (addi (muli (iota .tc S64x4096 32 [0] iota_S64x4096_d0_w32) (broadcast S64x4096 100000#32)) (k0_pay4 i)) (broadcast S64x4096 42#32) := rfl
  have hi : iota .tc S64x4096 32 [0] iota_S64x4096_d0_w32 (ix2 r j) = BitVec.ofNat 32 (0 * 64 + r.val) := rfl
  rw [h', h, column_at, hi, zero_mul, zero_add, Spec.counter, BitVec.ofNat_add (r.val * 100000), BitVec.ofNat_mul]

/-- The kernel's text from the hash's last turn on: the random words, and the noise of them. -/
def wordBlk (a b : IVec S64x4096 32) : IVec S64x4096 32 :=
  xori (addi (addi a (xori b a)) (broadcast S64x4096 466689008#32))
    (addi (xori (ori (shli (xori b a) (broadcast S64x4096 6#32)) (shrui (xori b a) (broadcast S64x4096 26#32))) (addi a (xori b a)))
      (broadcast S64x4096 (Scalar.addi 0#32 5#32)))

def unitBlk (w : IVec S64x4096 32) : FVec Ideal S64x4096 .f32 :=
  subf (bitcastToFloat .f32 (ori (shrui w (broadcast S64x4096 9#32)) (broadcast S64x4096 1065353216#32)))
    (broadcast S64x4096 (Scalar.ofBits .f32 0x3F800000#32))

def cutBlk (u : FVec Ideal S64x4096 .f32) : FVec Ideal S64x4096 .f32 :=
  maximumf (addf (mulf u (broadcast S64x4096 (Scalar.ofBits .f32 0x3F800000#32))) (broadcast S64x4096 (Scalar.ofBits .f32 0x00800000#32)))
    (broadcast S64x4096 (Scalar.ofBits .f32 0x00800000#32))

def logBlk (u : FVec Ideal S64x4096 .f32) : FVec Ideal S64x4096 .f32 :=
  subf (broadcast S64x4096 (Scalar.ofBits .f32 0x00000000#32)) (log u)

theorem score_text (lg : FVec Ideal S64x4096 .f32) (col a b : IVec S64x4096 32) :
    k0_pay47 lg col a b = select (cmpi .slt col (broadcast S64x4096 100000#32)) (addf lg (logBlk (logBlk (cutBlk (unitBlk (wordBlk a b))))))
      (broadcast S64x4096 (Scalar.ofBits .f32 0xFF800000#32)) := by
  unfold k0_pay47 logBlk cutBlk unitBlk wordBlk
  rfl

theorem word_at (a b : IVec S64x4096 32) (j : S64x4096.Idx) :
    wordBlk a b j = IntOp.xori (Words.inject 466689008 5 (Words.turn 6 26 (a j, IntOp.xori (b j) (a j)))).1
      (Words.inject 466689008 5 (Words.turn 6 26 (a j, IntOp.xori (b j) (a j)))).2 := by
  rw [Words.turn_eq]
  rfl

theorem unit_at (w : IVec S64x4096 32) (j : S64x4096.Idx) : unitBlk w j = Spec.unit (w j) := by
  have h : unitBlk w j = Ideal.ofBits .f32 (IntOp.ori (IntOp.shrui .vector (w j) 9#32) 1065353216#32) - Ideal.ofBits .f32 0x3F800000#32 := rfl
  rw [h, Ideal.ofBits_one_f32]; rfl

theorem cut_at (u : FVec Ideal S64x4096 .f32) (j : S64x4096.Idx) : cutBlk u j = max (u j + Spec.tiny) Spec.tiny := by
  have h : cutBlk u j = max (u j * Ideal.ofBits .f32 0x3F800000#32 + Ideal.ofBits .f32 0x00800000#32) (Ideal.ofBits .f32 0x00800000#32) := rfl
  rw [h, Ideal.ofBits_one_f32, mul_one, Spec.tiny]

theorem log_at (u : FVec Ideal S64x4096 .f32) (j : S64x4096.Idx) : logBlk u j = -Ideal.log (u j) := by
  have h : logBlk u j = Ideal.ofBits .f32 0x00000000#32 - Ideal.log (u j) := rfl
  rw [h, Ideal.ofBits_zero_f32, zero_sub]

theorem choose_at (col : IVec S64x4096 32) (x : FVec Ideal S64x4096 .f32) (j : S64x4096.Idx) :
    select (cmpi .slt col (broadcast S64x4096 100000#32)) x (broadcast S64x4096 (Scalar.ofBits .f32 0xFF800000#32)) j
      = Scalar.select (IntOp.cmpi .slt (col j) 100000#32) (x j) (Ideal.ofBits .f32 0xFF800000#32) := rfl

theorem plus_at (x y : FVec Ideal S64x4096 .f32) (j : S64x4096.Idx) : addf x y j = x j + y j := rfl

/-- The scores of a tile: the logit and the noise in the columns there are, and `-∞` past them. -/
abbrev scores (i : grid0.Coords) (lg : FVec Ideal S64x4096 .f32) : FVec Ideal S64x4096 .f32 :=
  k0_pay47 lg (k0_pay4 i) (k0_pay45 (mid1 i) (mid2 i)) (k0_pay46 (mid1 i) (mid2 i))

theorem score_at (i : grid0.Coords) (hi : (i 0).val < 25) (lg : FVec Ideal S64x4096 .f32) (r : Fin 64) (j : Fin 4096) :
    scores i lg (ix2 r j) = if (i 0).val * 4096 + j.val < 100000 then lg (ix2 r j) + Spec.gumbel r ((i 0).val * 4096 + j.val) else ⊥ := by
  have hw := Words.kernel_hashed i (ix2 r j) _ (counter_at i r j)
  have hj := j.2
  unfold scores
  rw [score_text, choose_at, plus_at, log_at, log_at, cut_at, unit_at, word_at, ← Words.last, hw, ← Words.bits, ← Spec.noise, ← Spec.gumbel, column_at, neg_inf]
  unfold IntOp.cmpi Scalar.select
  simp only [BitVec.slt_eq_decide]
  rw [toInt_small (by omega), show (100000#32 : BitVec 32).toInt = 100000 from by decide]
  by_cases h : (i 0).val * 4096 + j.val < 100000
  · have : (((i 0).val * 4096 + j.val : ℕ) : ℤ) < 100000 := by exact_mod_cast h
    simp only [this, h, decide_true, if_true]; rfl
  · have : ¬ (((i 0).val * 4096 + j.val : ℕ) : ℤ) < 100000 := by exact_mod_cast h
    simp only [this, h, decide_false, if_false]; rfl

end Cert.Proof.Tiles

end
-- ==== Proof.TilePick.lean ====
/-
  A tile's greatest score and its column, and the choice among the tiles.
-/
module

public import proofs.«01_k».proof.Proof.Fold
public import proofs.«01_k».proof.Proof.Tile
public import proofs.«01_k».proof.Proof.Region0

@[expose] public section

noncomputable section

namespace Cert.Proof.Tiles

open Cert.KernelIdeal Cert.KernelIdeal.Gen
open Idealize.ShloMosaic
open Cert.Proof.Pick

/-- Two values set equal, over the extended reals. -/
theorem same_at {S : Shape} (x y : FVec Ideal S .f32) (j : S.Idx) :
    cmpf .oeq x y j = FloatOps.cmpf (F := Ideal) (φ := .f32) .oeq (x j) (y j) := rfl

section Tile

variable (f : Fin 64 → Fin 100000 → EReal) (i : grid0.Coords) (hi : (i 0).val < 25) (lg : FVec Ideal S64x4096 .f32)

include hi in
/-- A tile's scores are the family's there, `-∞` past its end. -/
theorem scores_past (r : Fin 64) (hlg : ∀ j : Fin 4096, ∀ h : (i 0).val * 4096 + j.val < 100000,
      lg (ix2 r j) + Spec.gumbel r ((i 0).val * 4096 + j.val) = f r ⟨(i 0).val * 4096 + j.val, h⟩) (j : Fin 4096) :
    scores i lg (ix2 r j) = past (f r) ((i 0).val * 4096 + j.val) := by
  rw [score_at i hi lg r j]
  by_cases h : (i 0).val * 4096 + j.val < 100000
  · rw [if_pos h, hlg j h, past_lt _ h]
  · rw [if_neg h, past_ge _ h]

/-- The greatest score of a row of a tile. -/
theorem top_at (r : Fin 64) (k : Fin 4096) (hk : First (fun j : Fin 4096 => scores i lg (ix2 r j)) k) :
    topBlk i lg (ix3 (0 : Fin 1) r (0 : Fin 1)) = scores i lg (ix2 r k) := by
  unfold topBlk k0_pay48
  rw [row_top, neg_inf]
  exact hk.fold_max

include hi in
/-- The column of that score. -/
theorem arg_at (r : Fin 64) (k : Fin 4096) (hk : First (fun j : Fin 4096 => scores i lg (ix2 r j)) k) :
    argBlk (F := Ideal) i lg (ix3 (0 : Fin 1) r (0 : Fin 1)) = BitVec.ofNat 32 ((i 0).val * 4096 + k.val) := by
  unfold argBlk
  rw [row_least]
  refine Eq.trans ?_ (hk.fold_min (fun j => (i 0).val * 4096 + j.val) (fun a b h => by simpa using h) fun j => by have := j.2; omega)
  refine congrArg (Finset.fold IntOp.minsi 2147483647#32 · Finset.univ) (funext fun j => ?_)
  unfold k0_pay49 k0_pay48 k0_pay50
  rw [same_at, row_top', neg_inf, hk.fold_max, column_at]
  rfl

end Tile

/-- The merging kernel's choice: the least of the columns of the tiles whose score is the greatest of all. -/
theorem merge_at (x : FVec Ideal S25x64x1 .f32) (y : IVec S25x64x1 32) (r : Fin 64) :
    k1_pay1 (F := Ideal) x y (ix3 (0 : Fin 1) r (0 : Fin 1))
      = Finset.univ.fold IntOp.minsi 2147483647#32 fun t : Fin 25 =>
          Scalar.select (FloatOps.cmpf (F := Ideal) (φ := .f32) .oeq (x (ix3 t r (0 : Fin 1)))
              (Finset.univ.fold max (Ideal.ofBits .f32 0xFF800000#32) fun t : Fin 25 => x (ix3 t r (0 : Fin 1))))
            (y (ix3 t r (0 : Fin 1))) 2147483647#32 := by
  unfold k1_pay1
  pointwise

/-- The merging kernel on the tiles' first greatest scores: the first greatest of all. -/
theorem merge_first (f : Fin 64 → Fin 100000 → EReal) (x : FVec Ideal S25x64x1 .f32) (y : IVec S25x64x1 32) (r : Fin 64)
    (k : Fin 25 → Fin 4096) (hk : ∀ t : Fin 25, First (fun j : Fin 4096 => past (f r) (t.val * 4096 + j.val)) (k t))
    (hx : ∀ t : Fin 25, x (ix3 t r (0 : Fin 1)) = past (f r) (t.val * 4096 + (k t).val))
    (hy : ∀ t : Fin 25, y (ix3 t r (0 : Fin 1)) = BitVec.ofNat 32 (t.val * 4096 + (k t).val))
    (v : Fin 100000) (hv : First (f r) v) : k1_pay1 (F := Ideal) x y (ix3 (0 : Fin 1) r (0 : Fin 1)) = BitVec.ofNat 32 v.val := by
  obtain ⟨T, hT⟩ := exists_first (by decide : 0 < 25) fun t : Fin 25 => past (f r) (t.val * 4096 + (k t).val)
  obtain ⟨v', hv', hf⟩ := gather (f r) (m := 25) (b := 4096) (by decide) (by decide) (fun t => by have := t.2; omega) k hk T hT
  rw [hv.unique hf, hv', merge_at]
  simp only [hx, hy]
  rw [neg_inf, hT.fold_max]
  exact hT.fold_min (fun t => t.val * 4096 + (k t).val) (fun a b h => by
    rcases eq_or_lt_of_le h with rfl | h
    · exact le_rfl
    · have := (k a).2; have : a.val < b.val := h; show a.val * 4096 + (k a).val ≤ b.val * 4096 + (k b).val; omega)
    fun t => by have := t.2; have := (k t).2; omega

end Cert.Proof.Tiles

end
-- ==== Proof.Blocks.lean ====
/-
  The tiles of the arrays at coordinates: what the first kernel's input blocks hold.
-/
module

public import proofs.«01_k».proof.Proof.TilePick
public import Idealize.ShloMosaic.Lib.Pipeline.ArrRel

@[expose] public section

noncomputable section

namespace Cert.Proof.Tiles

open Cert.KernelIdeal Cert.KernelIdeal.Gen
open Idealize.ShloMosaic Idealize.ShloMosaic.TcCoe
open Idealize.ShloMosaic.Pipeline (Window)

/-- A filled buffer inside the part that is filled. -/
theorem fill_at {G : Pipeline.Grid} (w : Window sig G) {α : Type} (i : G.Coords) (d : w.block.Idx → α) (g : (w.xblock i).Idx → α) (j : w.block.Idx)
    (h : ∀ a, (j a).val < w.xsize i a) : w.fill i d g j = g fun a => ⟨(j a).val, h a⟩ := by
  unfold Window.fill; rw [dif_pos ((w.moved_iff i j).mpr h)]

theorem coord_at : ∀ t : Fin cfg0.N, (grid0.coords t 0).val = t.val := (by decide +kernel : ∀ t : Fin grid0.N, (grid0.coords t 0).val = t.val)

theorem index_0 : ∀ t : Fin cfg0.N, win0_0.index t = ![0, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, t.val] := (by decide +kernel : ∀ t : Fin grid0.N, _)
theorem index_3 : ∀ t : Fin cfg0.N, win0_3.index t = ![0, t.val] := (by decide +kernel : ∀ t : Fin grid0.N, _)
theorem index_4 : ∀ t : Fin cfg0.N, win0_4.index t = ![t.val, 0, 0] := (by decide +kernel : ∀ t : Fin grid0.N, _)
theorem index_5 : ∀ t : Fin cfg0.N, win0_5.index t = ![t.val, 0, 0] := (by decide +kernel : ∀ t : Fin grid0.N, _)

theorem size_1 : ∀ t : Fin cfg0.N, win0_1.xsize (grid0.coords t) = ![min 4096 (100000 - t.val * 4096), 1024] := (by decide +kernel : ∀ t : Fin grid0.N, _)
theorem size_2 : ∀ t : Fin cfg0.N, win0_2.xsize (grid0.coords t) = ![1, min 4096 (100000 - t.val * 4096)] := (by decide +kernel : ∀ t : Fin grid0.N, _)
theorem size_3 : ∀ t : Fin cfg0.N, win0_3.xsize (grid0.coords t) = ![64, min 4096 (100000 - t.val * 4096)] := (by decide +kernel : ∀ t : Fin grid0.N, _)

variable (V : (c : Dev nD) → (b : Ref sig .tc) → Buf (Elt Ideal) ((c : Thread nD τ).loc b)) (c : Dev nD) (t : Fin cfg0.N)

theorem x_at (r : Fin 64) (k : Fin 1024) : xblk V c t (ix2 r k) = (V c main_arg0 : FVec Ideal S64x1024 .f32) (ix2 r k) := by
  unfold xblk
  rw [View.read_apply]
  refine congrArg (V c main_arg0 : FVec Ideal S64x1024 .f32) ?_
  funext a
  refine Fin.ext ?_
  blk_simp [index_0]
  match a with
  | ⟨0, _⟩ => simp
  | ⟨1, _⟩ => simp

theorem w_at (d : FVec Ideal S4096x1024 .f32) (j : Fin 4096) (k : Fin 1024) (h : t.val * 4096 + j.val < 100000) :
    wpad V c t d (ix2 j k) = (V c main_v0 : FVec Ideal S100000x1024 .f32) (ix2 ⟨t.val * 4096 + j.val, h⟩ k) := by
  have hj := j.2
  have hk := k.2
  unfold wpad
  rw [fill_at _ _ _ _ _ (fun a => by
    show _ < win0_1.xsize (grid0.coords t) a
    rw [size_1]
    match a with
    | ⟨0, _⟩ => show j.val < min 4096 (100000 - t.val * 4096); omega
    | ⟨1, _⟩ => exact k.2)]
  unfold wcut
  rw [View.read_apply]
  refine congrArg (V c main_v0 : FVec Ideal S100000x1024 .f32) ?_
  funext a
  refine Fin.ext ?_
  blk_simp [index_1]
  match a with
  | ⟨0, _⟩ => simp
  | ⟨1, _⟩ => simp

theorem b_at (d : FVec Ideal S1x4096 .f32) (j : Fin 4096) (h : t.val * 4096 + j.val < 100000) :
    bpad V c t d (ix2 (0 : Fin 1) j) = (V c main_v1 : FVec Ideal S1x100000 .f32) (ix2 (0 : Fin 1) ⟨t.val * 4096 + j.val, h⟩) := by
  have hj := j.2
  unfold bpad
  rw [fill_at _ _ _ _ _ (fun a => by
    show _ < win0_2.xsize (grid0.coords t) a
    rw [size_2]
    match a with
    | ⟨0, _⟩ => exact Nat.one_pos
    | ⟨1, _⟩ => show j.val < min 4096 (100000 - t.val * 4096); omega)]
  unfold bcut
  rw [View.read_apply]
  refine congrArg (V c main_v1 : FVec Ideal S1x100000 .f32) ?_
  funext a
  refine Fin.ext ?_
  blk_simp [index_2]
  match a with
  | ⟨0, _⟩ => simp
  | ⟨1, _⟩ => simp

/-- A tile's logits in the columns there are, whatever the buffers' rests hold. -/
theorem lg_at (d1 : FVec Ideal S4096x1024 .f32) (d2 : FVec Ideal S1x4096 .f32) (r : Fin 64) (j : Fin 4096) (h : t.val * 4096 + j.val < 100000)
    (X : (⟨2, ![64, 1024]⟩ : Shape).Idx → EReal) (W : (⟨2, ![1024, 100000]⟩ : Shape).Idx → EReal) (B : (⟨1, ![100000]⟩ : Shape).Idx → EReal)
    (hX : ∀ r k, (V c main_arg0 : FVec Ideal S64x1024 .f32) (ix2 r k) = X (ix2 r k))
    (hW : ∀ v k, (V c main_v0 : FVec Ideal S100000x1024 .f32) (ix2 v k) = W (ix2 k v))
    (hB : ∀ v, (V c main_v1 : FVec Ideal S1x100000 .f32) (ix2 (0 : Fin 1) v) = B (ix1 v)) :
    lgPad V c t d1 d2 (ix2 r j) = Spec.logit X W B r ⟨t.val * 4096 + j.val, h⟩ := by
  unfold lgPad Spec.logit
  rw [logit_at, b_at V c t d2 j h, hB]
  refine congrArg (· + _) (Finset.sum_congr rfl fun k _ => ?_)
  rw [x_at, w_at V c t d1 j k h, hX, hW]

end Cert.Proof.Tiles

end
-- ==== Proof.Region1.lean ====
/-
  The second kernel of the program, one point: what its body leaves in the output block, the exact proof data of its
  pipeline over any contents of the buffers at entry, and the regions of both kernels.
-/
module

public import proofs.«01_k».proof.Proof.Region0

@[expose] public section

noncomputable section

namespace Cert.Proof.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-- The merging body on whole staging buffers: the inputs stay, the output is left at what the skeleton names. -/
theorem merge_run (c : Dev nD) (E : Set ℕ)
    (M0 : Memref sig .tc .vmem S25x64x1 .f32) (h0 : M0.IsWhole) (M1 : Memref sig .tc .vmem S25x64x1 .i32) (h1 : M1.IsWhole)
    (M2 : Memref sig .tc .vmem S1x64x1 .i32) (h2 : M2.IsWhole) (x : Vec F S25x64x1 .f32) (y : Vec F S25x64x1 .i32) (K : PUnit → sProp 𝕄) :
    (iprop(owns (c : Thread nD τ) M0 fullShare x ∗ owns (c : Thread nD τ) M1 fullShare y ∗ (∃ d, owns (c : Thread nD τ) M2 fullShare d)
        ∗ (iprop(owns (c : Thread nD τ) M0 fullShare x ∗ owns (c : Thread nD τ) M1 fullShare y
            ∗ owns (c : Thread nD τ) M2 fullShare (k1_pay1 x y)) -∗ K ⟨⟩)) : sProp 𝕄)
      ⊢ wp frame (wpE (defs₀ (F := F)) Variants.none c none) E (cc1__merge_kernel M0 h0 M1 h1 M2 h2) K := by
  rw [cc1__merge_kernel_eq_skeleton]
  unfold cc1__merge_kernel_skel owns
  iintro ⟨⟨%f0, %hf0, H0⟩, ⟨%f1, %hf1, H1⟩, ⟨%d2, %f2, -, H2⟩, Hk⟩
  sl_exec
  sl_step
  iapply Hk
  isplitl [H0]; · iexists f0; isplitr; (· ipureintro; exact hf0); iexact H0
  isplitl [H1]; · iexists f1; isplitr; (· ipureintro; exact hf1); iexact H1
  iexists _; isplitr
  swap; · iexact H2
  ipureintro
  refine (read_store_whole _ _ z3 _ _).trans ?_
  have e0 : View.readAt (Elt F) M0.view (Rect.unit (s := S25x64x1) ![0, 0, 0] S25x64x1.size inb_S25x64x1_S25x64x1_0_0_0).toLoadRect f0 = x := by
    rw [View.readAt_eq_ld, View.ld_unit_zero z3]; exact hf0
  have e1 : View.readAt (Elt F) M1.view (Rect.unit (s := S25x64x1) ![0, 0, 0] S25x64x1.size inb_S25x64x1_S25x64x1_0_0_0).toLoadRect f1 = y := by
    rw [View.readAt_eq_ld, View.ld_unit_zero z3]; exact hf1
  rw [e0, e1]

variable (V : (c : Dev nD) → (b : Ref sig .tc) → Buf (Elt F) ((c : Thread nD τ).loc b))

/-- The two arrays that the merging kernel reads, as its windows stage them. -/
def topIn (c : Dev nD) (t : Fin cfg1.N) : Vec F S25x64x1 .f32 := ((cfg1.win 0).blk t).view.read (Elt F) (V c main_v2_1)
def argIn (c : Dev nD) (t : Fin cfg1.N) : Vec F S25x64x1 .i32 := ((cfg1.win 1).blk t).view.read (Elt F) (V c main_v2_2)

/-- The proof data of the second pipeline on core `c`, entered at `V`. -/
def dat1 (c : Dev nD) : Dat τ (Elt F) Unit ℕ UU ℕ cfg1 c where
  A w := V c (Pipeline.arrRef spec1 w)
  after w t := match w with
    | ⟨0, _⟩ => topIn V c t
    | ⟨1, _⟩ => argIn V c t
    | ⟨2, _⟩ => k1_pay1 (topIn V c t) (argIn V c t)
    | ⟨_ + 3, h⟩ => absurd h (Nat.not_lt.2 (Nat.le_add_left _ _))
  Φ _ := Pipeline.scopedRest (Ix := Unit) (Name := ℕ) (U := UU) (Lvl := ℕ) (Val := Elt F) spec1 c
  q _ := fullShare
  owed _ := 0

theorem before1_0 (c : Dev nD) (t : Fin cfg1.N) (d) : (dat1 V c).before 0 t d = topIn V c t := by
  unfold Dat.before; rw [if_pos (fetch1_0 t)]; rfl
theorem before1_1 (c : Dev nD) (t : Fin cfg1.N) (d) : (dat1 V c).before 1 t d = argIn V c t := by
  unfold Dat.before; rw [if_pos (fetch1_1 t)]; rfl

theorem defs₀_row1 (t : Fin cfg1.N) : defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) 𝒱₀ () Set.univ := fun t => by
  rw [bigSep_W1, bigSep_W1, defs₀_row1]
  rw [show (dat1 V c).Φ t.succ = (dat1 V c).Φ t.castSucc from rfl, show (dat1 V c).owesAt () t.succ = (dat1 V c).owesAt () t.castSucc from rfl]
  simp only [before1_0, before1_1]
  iintro ⟨HΦ, Ho, ⟨%d0, H0⟩, ⟨%d1, H1⟩, ⟨%d2, H2⟩⟩
  iapply (merge_run c Set.univ _ _ _ _ _ _ (topIn V c t) (argIn V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

end Cert.Proof.Tiles

end
-- ==== Proof.Records.lean ====
/-
  The two kernels' regions as records: what the core holds before and after each. The first one's outputs hold SOME
  contents that the relational data allow (`Good`); the second is a family over whatever the first has left.
-/
module

public import proofs.«01_k».proof.Proof.Region1
public import proofs.«01_k».proof.Proof.Gen.KernelIdeal.Regions
public import Idealize.ShloMosaic.Lib.Pipeline.RegionsLoop
public import Idealize.ShloMosaic.Lib.Pipeline.RegionsForgetR
public import Idealize.ShloMosaic.Lib.Pipeline.RegionsForgetLinks

@[expose] public section

noncomputable section

namespace Cert.Proof.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ UU ℕ

/-- Every buffer of a core at a valuation, as the proof data read it. -/
abbrev rd (W : Dev nD → Valuation τ sig (Elt F)) (c : Dev nD) (b : Ref sig .tc) : Buf (Elt F) ((c : Thread nD τ).loc b) := W c b

/-- What the first region may leave on core `c` when entered at `V`: every buffer but its three outputs as before, and
    in each of its arrays contents that its pipeline may have written. -/
def Good (V : Dev nD → Valuation τ sig (Elt F)) (c : Dev nD) (W : Valuation τ sig (Elt F)) : Prop :=
  (∀ b : Ref sig .tc, b ∉ ([main_v2_0, main_v2_1, main_v2_2] : List (Ref sig .tc)) → W b = V c b)
    ∧ ∀ w : Fin cfg0.W, (rdat0 (rd V) c).ArrAt w cfg0.N (W (Pipeline.arrRef spec0 w))

/-- The proof data of the program's pipelines, for the first region and for the second one. -/
def rdats0 (V : Dev nD → Valuation τ sig (Elt F)) : (p : Fin 2) → (c : Dev nD) → RDat τ (Elt F) Unit ℕ UU ℕ (cfgs p) c
  | ⟨0, _⟩ => fun c => rdat0 (rd V) c
  | ⟨1, _⟩ => fun c => (junkDat c).toR
  | ⟨_ + 2, h⟩ => absurd h (Nat.not_lt.2 (Nat.le_add_left _ _))
def pdats1 (V : Dev nD → Valuation τ sig (Elt F)) : (p : Fin 2) → (c : Dev nD) → Dat τ (Elt F) Unit ℕ UU ℕ (cfgs p) c
  | ⟨0, _⟩ => fun c => junkDat c
  | ⟨1, _⟩ => fun c => dat1 (rd V) c
  | ⟨_ + 2, h⟩ => absurd h (Nat.not_lt.2 (Nat.le_add_left _ _))
/-- The same for the exact data behind the first region's: what carries its arrays' shares. -/
def pdats0 (V : Dev nD → Valuation τ sig (Elt F)) : (p : Fin 2) → (c : Dev nD) → Dat τ (Elt F) Unit ℕ UU ℕ (cfgs p) c
  | ⟨0, _⟩ => fun c => dat0 (rd V) c
  | ⟨1, _⟩ => fun c => junkDat c
  | ⟨_ + 2, h⟩ => absurd h (Nat.not_lt.2 (Nat.le_add_left _ _))

/-- The core owes nothing, whatever is on record. -/
abbrev free (c : Dev nD) : sProp 𝕄 := iprop(∃ W, owes (c : Thread nD τ) (0 : CellTallies nD τ sig Unit) W)

/-- The buffers after the first region, its outputs' contents put in. -/
def put0 (V : Dev nD → Valuation τ sig (Elt F)) (c : Dev nD)
    (A : (w : Fin cfg0.W) → Buf (Elt F) ((cfg0.win w).arr.view.loc (c.tc : Thread nD τ))) : Valuation τ sig (Elt F) :=
  Function.update (Function.update (Function.update (V c) main_v2_0 (A 3)) main_v2_1 (A 4)) main_v2_2 (A 5)

theorem put0_of (V : Dev nD → Valuation τ sig (Elt F)) (c : Dev nD) (A) (b : Ref sig .tc)
    (h : b ∉ ([main_v2_0, main_v2_1, main_v2_2] : List (Ref sig .tc))) : put0 V c A b = V c b := by
  simp only [List.mem_cons, List.not_mem_nil, _root_.or_false, not_or] at h
  unfold put0
  rw [Function.update_of_ne (StableHlo.devRef_ne_of_ne h.2.2), Function.update_of_ne (StableHlo.devRef_ne_of_ne h.2.1),
    Function.update_of_ne (StableHlo.devRef_ne_of_ne h.1)]

theorem put0_arr (V : Dev nD → Valuation τ sig (Elt F)) (c : Dev nD) (A : (w : Fin cfg0.W) → Buf (Elt F) ((cfg0.win w).arr.view.loc (c.tc : Thread nD τ)))
    (hA : ∀ w, (rdat0 (rd V) c).ArrAt w cfg0.N (A w)) : ∀ w, A w = put0 V c A (Pipeline.arrRef spec0 w) := by
  have hin : ∀ w : Fin cfg0.W, (cfg0.win w).isOut = false → A w = (dat0 (rd V) c).A w := fun w hw =>
    (congrFun ((rdat0 (rd V) c).ArrAt_in w hw cfg0.N) (A w)).mp (hA w)
  intro w
  fin_cases w
  · exact (hin 0 rfl).trans (put0_of V c A main_arg0 (by decide)).symm
  · exact (hin 1 rfl).trans (put0_of V c A main_v0 (by decide)).symm
  · exact (hin 2 rfl).trans (put0_of V c A main_v1 (by decide)).symm
  · exact (by unfold put0
              rw [Function.update_of_ne (StableHlo.devRef_ne_of_ne (by decide)), Function.update_of_ne (StableHlo.devRef_ne_of_ne (by decide)), Function.update_self]
            : put0 V c A main_v2_0 = A 3).symm
  · exact (by unfold put0
              rw [Function.update_of_ne (StableHlo.devRef_ne_of_ne (by decide)), Function.update_self]
            : put0 V c A main_v2_1 = A 4).symm
  · exact (by unfold put0
              rw [Function.update_self]
            : put0 V c A main_v2_2 = A 5).symm

theorem good_put0 (V : Dev nD → Valuation τ sig (Elt F)) (c : Dev nD) (A : (w : Fin cfg0.W) → Buf (Elt F) ((cfg0.win w).arr.view.loc (c.tc : Thread nD τ)))
    (hA : ∀ w, (rdat0 (rd V) c).ArrAt w cfg0.N (A w)) : Good V c (put0 V c A) :=
  ⟨put0_of V c A, fun w => (put0_arr V c A hA w) ▸ hA w⟩

set_option backward.isDefEq.respectTransparency.types false in
/-- The first kernel's region, entered at `V`. -/
def reg0 (V : Dev nD → Valuation τ sig (Elt F)) : RDat.RegionSeg (pcfgs (F := F)) adm (rdats0 V) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd V) c).toRRel
  hwaits := RDat.hwaits_of_owed_zero _ _ _ _ L lv 0 fun _ _ => rfl
  pre c := iprop(unscopedBufs c (rd V c) ∗ free c)
  post c := iprop(∃ W : Valuation τ sig (Elt F), ⌜Good V c W⌝ ∗ unscopedBufs c (fun b => W b) ∗ free c)
  X _ := BI.emp
  Y _ := BI.emp
  Z c := Pipeline.unscopedRest (Ix := Unit) (Name := ℕ) (U := UU) (Lvl := ℕ) spec0 c (rd V c)
  hentry c := by
    rw [Pipeline.ownSems0_none]
    have hsplit := RDat.arrays_of_unscopedBufs (p := 0) (pcfgs (F := F)) adm (rdats0 V) launch0.win launch0.arr_whole c
      (fun w => (dat0 (rd V) c).share_full (fun _ => rfl) w) (rd V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats0 V 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (rdats0 V 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have harr : ((rdat0 (rd V) c).arraysAt cfg0.N : sProp 𝕄) ⊢ iprop(∃ A : (w : Fin cfg0.W) → Buf (Elt F) ((cfg0.win w).arr.view.loc (c.tc : Thread nD τ)),
        ⌜∀ w, (rdat0 (rd V) c).ArrAt w cfg0.N (A w)⌝ ∗ (pdats0 V 0 c).arrays A) := by
      rw [show (fun A : (w : Fin cfg0.W) → Buf (Elt F) ((cfg0.win w).arr.view.loc (c.tc : Thread nD τ)) => (iprop(⌜∀ w, (rdat0 (rd V) c).ArrAt w cfg0.N (A w)⌝ ∗ (pdats0 V 0 c).arrays A) : sProp 𝕄))
        = fun A => iprop(⌜∀ w, (rdat0 (rd V) c).ArrAt w cfg0.N (A w)⌝ ∗ (dat0 (rd V) c).arrays A) from rfl]
      unfold RDat.arraysAt Dat.arrays
      refine (BI.bigSep_exists_pi Finset.univ _).trans ?_
      iintro ⟨%A, H⟩
      ihave H' := (BI.bigSep_pure_sep Finset.univ (fun w => (rdat0 (rd V) c).ArrAt w cfg0.N (A w)) _) $$ H
      icases H' with ⟨%hA, H⟩
      iexists A
      isplitr
      · ipureintro; exact fun w => hA w (Finset.mem_univ w)
      iexact H
    rw [show ((rdats0 V 0 c).arraysAt (Pipeline.pin (pcfgs (F := F)) adm 0).N : sProp 𝕄) = (rdat0 (rd V) c).arraysAt cfg0.N from rfl]
    iintro ⟨Ha, HO, -, Hrest⟩
    ihave Ha' := harr $$ Ha
    icases Ha' with ⟨%A, %hA, Ha⟩
    imodintro
    iexists (put0 V c A)
    isplitr; · ipureintro; exact good_put0 V c A hA
    have hjoin := Pipeline.unscopedBufs_of_arrays (p := 0) (pcfgs (F := F)) adm (Ix := Unit) (Name := ℕ) (U := UU) (Lvl := ℕ) launch0.win launch0.arr_whole c
      (pdats0 V) ((pdats0 V 0 c).share_full fun _ => rfl) (rd V c) (fun b => put0 V c A b) A (put0_arr V c A hA)
      (fun b hb => put0_of V c A b fun h => hb (by
        simp only [List.mem_cons, List.not_mem_nil, _root_.or_false] at h
        rcases h with rfl | rfl | rfl
        · exact Finset.mem_image.mpr ⟨(3 : Fin 6), Finset.mem_univ _, rfl⟩
        · exact Finset.mem_image.mpr ⟨(4 : Fin 6), Finset.mem_univ _, rfl⟩
        · exact Finset.mem_image.mpr ⟨(5 : Fin 6), Finset.mem_univ _, rfl⟩))
    isplitl [Ha Hrest]
    · iapply hjoin; isplitl [Ha] <;> iassumption
    unfold RDat.owesAt Pipeline.owesWithin
    icases HO with ⟨%W, -, HO⟩; iexists W; iexact HO

/-- The second kernel's result array after its one point, entered at `V`. -/
def merged (V : Dev nD → Valuation τ sig (Elt F)) (c : Dev nD) := (dat1 (rd V) c).arrAt 2 cfg1.N
/-- The buffers after the second region. -/
def put1 (V : Dev nD → Valuation τ sig (Elt F)) (c : Dev nD) : Valuation τ sig (Elt F) := Function.update (V c) main_v3 (merged V c)

theorem put1_of (V : Dev nD → Valuation τ sig (Elt F)) (c : Dev nD) (b : Ref sig .tc) (h : b ≠ main_v3) : put1 V c b = V c b := by
  unfold put1; rw [Function.update_of_ne (StableHlo.devRef_ne_of_ne h)]

set_option backward.isDefEq.respectTransparency.types false in
/-- The second kernel's region, entered at `V`. -/
def reg1 (V : Dev nD → Valuation τ sig (Elt F)) : Pipeline.RegionSeg (pcfgs (F := F)) adm (pdats1 V) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd V) c).loose
  hwaits := Pipeline.hwaits_of_owed_zero _ _ _ _ L lv 1 fun _ _ => rfl
  pre c := iprop(unscopedBufs c (rd V c) ∗ free c)
  post c := iprop(unscopedBufs c (fun b => put1 V c b) ∗ free c)
  X _ := BI.emp
  Y _ := BI.emp
  Z c := Pipeline.unscopedRest (Ix := Unit) (Name := ℕ) (U := UU) (Lvl := ℕ) spec1 c (rd V c)
  hentry c := by
    rw [Pipeline.ownSems0_none]
    have hsplit := Pipeline.arrays_of_unscopedBufs (p := 1) (pcfgs (F := F)) adm (pdats1 V) launch1.win launch1.arr_whole c
      ((pdats1 V 1 c).share_full fun _ => rfl) (rd V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats1 V 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats1 V 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats1 V) ((pdats1 V 1 c).share_full fun _ => rfl) (rd V c) (fun b => put1 V c b) ((pdats1 V 1 c).arrAt · cfg1.N)
      (fun w => by
        fin_cases w
        · exact ((pdats1 V 1 c).arrAt_in 0 rfl _).trans (put1_of V c main_v2_1 (by decide)).symm
        · exact ((pdats1 V 1 c).arrAt_in 1 rfl _).trans (put1_of V c main_v2_2 (by decide)).symm
        · exact (by unfold put1; rw [Function.update_self] : put1 V c main_v3 = merged V c).symm)
      (fun b hb => put1_of V c b fun h => hb (h ▸ Finset.mem_image.mpr ⟨(2 : Fin 3), Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem reg1_post (V : Dev nD → Valuation τ sig (Elt F)) (c : Dev nD) :
    (reg1 V).post c = (iprop(unscopedBufs c (fun b => put1 V c b) ∗ free c) : sProp 𝕄) := rfl

end Cert.Proof.Tiles

end
-- ==== Proof.Run.lean ====
/-
  The run of the program: its host stretches and its two regions in order, the second region and what follows it at
  whatever the first one has left. Every weakly fair execution ends, and the final memory is read off the last state.
-/
module

public import proofs.«01_k».proof.Proof.Records
public import Idealize.ShloMosaic.Lib.HostLoop.Plain
public import Idealize.ShloMosaic.Lib.HostLoop.Lifted
public import Idealize.ShloMosaic.Lib.Quiescent

@[expose] public section

noncomputable section

namespace Cert.Proof.Tiles

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf CSeg)

variable {F : FTy → Type} [FloatOps F]

local notation "𝕄" => MT nD τ sig Unit (Elt F) ℕ UU ℕ

/-- The program has no counted loop. -/
abbrev noLoops : Fin 0 → Prog (TpuEff nD τ sig (Elt F) (HostLoop.Sig (Pipeline.Sig Λ₀ (Fin 2) fun p => (pcfgs (F := F) p).Adm) 0) .tc) PUnit := fun l => l.elim0

/-- One ticket per region, each with its own copy of the algebra. -/
abbrev tk : Fin 2 → Pipeline.Ticket (Ix := Unit) (Name := ℕ) (U := UU) (Lvl := ℕ) (nD := nD) (τ := τ) (pcfgs (F := F)) adm
  | ⟨0, _⟩ => { p := 0, pdats := fun p c => junkDat c, EP := embL }
  | ⟨1, _⟩ => { p := 1, pdats := fun p c => junkDat c, EP := embR }
  | ⟨_ + 2, h⟩ => absurd h (Nat.not_lt.2 (Nat.le_add_left _ _))

abbrev hinj : Function.Injective (cellOf (nD := nD) (τ := τ) (Pipeline.pin (pcfgs (F := F)) adm)) := cellOf_inj

abbrev KSeg : Type 1 := CSeg (pcfgs (F := F)) adm defs₀ 𝒱₀ L lv noLoops (tk (F := F))

variable (m : (ℓ : Loc nD τ sig) → Buf (Elt F) ℓ)

/-- What the first region may have left, on every core. -/
abbrev Left : Type := Dev nD → Valuation τ sig (Elt F)
abbrev sel (o : Left (F := F)) (c : Dev nD) : Prop := Good (V1 m) c (o c)

abbrev hseg0 : KSeg (F := F) :=
  CSeg.ofOps _ _ _ _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) free
abbrev kseg0 : KSeg (F := F) :=
  CSeg.regionAtR (pcfgs (F := F)) adm () hinj defs₀ 𝒱₀ L lv noLoops tk 0 (rdats0 (V1 m)) (reg0 (V1 m))
abbrev kseg1 : KSeg (F := F) :=
  CSeg.regionF (pcfgs (F := F)) adm () hinj defs₀ 𝒱₀ L lv noLoops tk 1 (fun o : Left (F := F) => pdats1 o) (fun o => reg1 o) (sel m)
abbrev hseg2at (o : Left (F := F)) : KSeg (F := F) :=
  CSeg.ofOps _ _ _ _ _ _ _ _ (Pipeline.ucRefs τ sig) hostOps2
    (fun op h => Pipeline.sub_ucRefs op ((List.forall_iff_forall_mem.mp hostOps2_sub) op h))
    (fun op h => (List.forall_iff_forall_mem.mp hostOps2_fresh) op h) (put1 o) free
abbrev hseg2 : KSeg (F := F) :=
  CSeg.exSel (sel m) hseg2at (StableHlo.seq hostOps2) (fun _ => rfl) 0 (fun _ => le_rfl) ∅ (fun _ => rfl)

abbrev segs : List (KSeg (F := F)) := [hseg0 m, kseg0 m, kseg1 m, hseg2 m]

/-- The last state: some contents the first region may have left, the second's result and the last stretch after it. -/
abbrev Tend (c : Dev nD) : sProp 𝕄 :=
  iprop(∃ o : Left (F := F), ⌜sel m o c⌝ ∗ StableHlo.held (c : Thread nD τ) (Pipeline.ucRefs τ sig) (StableHlo.after hostOps2 (put1 o c)))

theorem main_lifted (c : Dev nD) : HostLoop.liftProg (L := 0) (main (F := F) c) = CSeg.runL (segs m) := by
  rw [main_chain, HostLoop.liftProg_chain]
  simp only [List.map_cons, List.map_nil, HostLoop.liftProg_seq]
  rfl

theorem link0 (c : Dev nD) : (hseg0 m).post c ⊢ (kseg0 m).pre c := by
  show iprop(StableHlo.held (c : Thread nD τ) (Pipeline.ucRefs τ sig) (V1 m c) ∗ free c) ⊢ iprop(unscopedBufs c (rd (V1 m) c) ∗ free c)
  rw [show (unscopedBufs c (rd (V1 m) c) : sProp 𝕄) = StableHlo.held (c : Thread nD τ) (Pipeline.ucRefs τ sig) (V1 m c) from Pipeline.unscopedBufs_held c (V1 m c)]

theorem link1 (c : Dev nD) : (kseg0 m).post c ⊢ (kseg1 m).pre c := by
  have h : iprop(∃ W : Valuation τ sig (Elt F), ⌜Good (V1 m) c W⌝ ∗ unscopedBufs c (fun b => W b) ∗ free c)
      ⊢ (iprop(∃ o : Left (F := F), unscopedBufs c (rd o c) ∗ ⌜sel m o c⌝ ∗ free c) : sProp 𝕄) := by
    iintro ⟨%W, %hW, H, HO⟩
    iexists (fun _ => W)
    isplitl [H]; · iexact H
    isplitr; · ipureintro; exact hW
    iexact HO
  exact h.trans (CSeg.regionF_pre c fun o ho => Entails.of_eq rfl)

theorem link2 (c : Dev nD) : (kseg1 m).post c ⊢ (hseg2 m).pre c := by
  refine CSeg.regionF_post c fun o ho => ?_
  have h : iprop(StableHlo.held (c : Thread nD τ) (Pipeline.ucRefs τ sig) (put1 o c) ∗ free c)
      ⊢ (iprop(∃ o : Left (F := F), StableHlo.held (c : Thread nD τ) (Pipeline.ucRefs τ sig) (put1 o c) ∗ ⌜sel m o c⌝ ∗ free c) : sProp 𝕄) := by
    iintro ⟨H, HO⟩
    iexists o
    isplitl [H]; · iexact H
    isplitr; · ipureintro; exact ho
    iexact HO
  rw [reg1_post, show (unscopedBufs c (fun b => put1 o c b) : sProp 𝕄) = StableHlo.held (c : Thread nD τ) (Pipeline.ucRefs τ sig) (put1 o c) from Pipeline.unscopedBufs_held c (put1 o c)]
  exact h.trans (CSeg.exSel_pre c fun o ho => Entails.of_eq rfl)

theorem link3 (c : Dev nD) : (hseg2 m).post c ⊢ iprop(Tend m c ∗ ∃ W, owes (c.tc : Thread nD τ) (0 : CellTallies nD τ sig Unit) W) := by
  refine CSeg.exSel_post c fun o ho => ?_
  show iprop(StableHlo.held (c : Thread nD τ) (Pipeline.ucRefs τ sig) (StableHlo.after hostOps2 (put1 o c)) ∗ free c) ⊢ _
  iintro ⟨H, HO⟩
  isplitr [HO]; swap; · iexact HO
  iexists o
  isplitr; · ipureintro; exact ho
  iexact H

/-- Two resources conjoined. -/
theorem bigSep_two {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- What the final memory holds on core `c`. -/
def Ends (c : Dev nD) (s : MemSt nD τ sig (Elt F)) : Prop :=
  ∃ o : Left (F := F), Good (V1 m) c (o c)
    ∧ ∀ b ∈ Pipeline.ucRefs τ sig, s.mem (((c : Thread nD τ)).1, b) = StableHlo.after hostOps2 (put1 o c) b

theorem segs_disjoint : (segs m).Pairwise fun s s' => Disjoint s.T s'.T := by
  have h0 : (hseg0 m).T = ∅ := rfl
  have h1 : (kseg0 m).T = {0} := rfl
  have h2 : (kseg1 m).T = {1} := rfl
  have h3 : (hseg2 m).T = ∅ := rfl
  simp [segs, List.pairwise_cons, List.mem_cons, List.not_mem_nil, _root_.or_false, forall_eq_or_imp, forall_eq, h0, h1, h2, h3, List.Pairwise.nil]

set_option backward.isDefEq.respectTransparency.types false in
/-- THE RUN of the lifted program. -/
theorem run_lifted (g : Dev nD → PrngReg) :
    θ_run (HostLoop.defs noLoops (Pipeline.defs (pcfgs (F := F)) defs₀)) (onTc (τ := τ) fun c => HostLoop.liftProg (L := 0) (main (F := F) c)) ⟨m, fun _ => 0, g⟩
      (fun r => (∀ c : Dev nD, Ends m c r.2) ∧ r.2.sem = fun _ => 0) :=
  Pipeline.θ_run_regions_loop_kit_sems (pcfgs (F := F)) adm hinj defs₀ 𝒱₀ L lv noLoops tk m g _ (segs m)
    (fun c Q => by rw [main_lifted m c]) (segs_disjoint m)
    (O₀ := 0) (hL := fun _ _ => rfl) (G := fun _ => BI.emp)
    (u₀ := (Rounds.initOf (Pipeline.cells (Pipeline.pin (pcfgs (F := F)) adm) hinj) (Pipeline.launchToks (Pipeline.pin (pcfgs (F := F)) adm) hinj),
      Rounds.initOf (Pipeline.cells (Pipeline.pin (pcfgs (F := F)) adm) hinj) (Pipeline.launchToks (Pipeline.pin (pcfgs (F := F)) adm) hinj)))
    (hu₀ := by
      iintro Hu
      ihave H := (ownU_pair _ _) $$ Hu
      icases H with ⟨H0, H1⟩
      imodintro
      isplitl
      · rw [bigSep_two]
        isplitl [H0]; · iexact H0
        iexact H1
      · rw [BI.bigSep_emp_const]; iempintro)
    (T₀ := fun c => iprop(StableHlo.held (c : Thread nD τ) (Pipeline.ucRefs τ sig) (V0 m c) ∗ free c)) (Tₙ := Tend m)
    (hch := ⟨fun _ => .rfl, link0 m, link1 m, link2 m, link3 m⟩)
    (hinit := Pipeline.initEach L lv fun c => by
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => Ends m c s)
    (hfin := fun c s' => by
      unfold Tend StableHlo.held
      iintro ⟨⟨%o, %ho, Hh⟩, HSI⟩
      ihave Hp := (pointsTo_read_all (Pipeline.ucRefs τ sig) (fun b => (((c : Thread nD τ)).1, b)) (StableHlo.after hostOps2 (put1 o c)) s') $$ [Hh HSI]
      · isplitl [Hh] <;> iassumption
      icases Hp with ⟨%hb, HSI⟩
      imodintro
      isplitr; · ipureintro; exact ⟨o, ho, hb⟩
      iexact HSI)
    (hQ := fun s h hs => ⟨h, sem_eq_zero hs fun c sm hsm => absurd (regions_no_unscoped sm) (by rw [hsm]; decide)⟩)

/-- THE RUN of the program. -/
theorem run (g : Dev nD → PrngReg) : θ_run defs (onTc (τ := τ) (main (F := F))) ⟨m, fun _ => 0, g⟩
    (fun r => (∀ c : Dev nD, Ends m c r.2) ∧ r.2.sem = fun _ => 0) :=
  HostLoop.θ_run_of_lift noLoops (Pipeline.defs (pcfgs (F := F)) defs₀) main _ _ (run_lifted m g)

end Cert.Proof.Tiles

end
-- ==== Proof.Arrays.lean ====
/-
  What the two kernels leave in the arrays, over the extended reals.
-/
module

public import proofs.«01_k».proof.Proof.Blocks
public import proofs.«01_k».proof.Proof.Run

@[expose] public section

noncomputable section

namespace Cert.Proof.Tiles

open Cert.KernelIdeal Cert.KernelIdeal.Gen
open Idealize.ShloMosaic Idealize.ShloMosaic.TcCoe
open Idealize.ShloMosaic.Pipeline (Window Dat RDat)
open Cert.Proof.Pick

/-- One contents of the staging buffers for each point of an output's window, of which the array is made. -/
theorem exact_of {V : Dev nD → Valuation τ sig (Elt Ideal)} {c : Dev nD} {A : Valuation τ sig (Elt Ideal)} (h : Good V c A) (w : Fin cfg0.W) (hw : fgt w = true) :
    ∃ D : Dat τ (Elt Ideal) Unit ℕ UU ℕ cfg0 c, (∀ t, (cfg0.win w).flush t = true → Rl (rd V) c w t (D.after w t))
      ∧ A (Pipeline.arrRef spec0 w) = D.arrAt w cfg0.N := by
  obtain ⟨X, hX, hA⟩ := (h.2 w).exists_exact
  have e := hA (Function.update (fun _ _ _ => Classical.arbitrary _) w X) fun t _ _ => by rw [Function.update_self]
  refine ⟨_, fun t hf => ?_, e⟩
  rw [RDat.withAfter_after, Function.update_self]
  exact Dat.toRRel_leaves _ hw (hX t t.isLt hf)

/-- The greatest score of each tile's rows, and its column, at given places of the tiles. -/
def topsOf (f : Fin 64 → Fin 100000 → EReal) (k : Fin 25 → Fin 64 → Fin 4096) : FVec Ideal S25x64x1 .f32 :=
  fun i => past (f (i 1)) ((i 0).val * 4096 + (k (i 0) (i 1)).val)
def argsOf (k : Fin 25 → Fin 64 → Fin 4096) : IVec S25x64x1 32 :=
  fun i => BitVec.ofNat 32 ((i 0).val * 4096 + (k (i 0) (i 1)).val)

theorem topsOf_at (f : Fin 64 → Fin 100000 → EReal) (k : Fin 25 → Fin 64 → Fin 4096) (t : Fin 25) (r : Fin 64) :
    topsOf f k (ix3 t r (0 : Fin 1)) = past (f r) (t.val * 4096 + (k t r).val) := rfl
theorem argsOf_at (k : Fin 25 → Fin 64 → Fin 4096) (t : Fin 25) (r : Fin 64) :
    argsOf k (ix3 t r (0 : Fin 1)) = BitVec.ofNat 32 (t.val * 4096 + (k t r).val) := rfl

section

variable {V : Dev nD → Valuation τ sig (Elt Ideal)} {c : Dev nD} {A : Valuation τ sig (Elt Ideal)} (h : Good V c A)
  (X : (⟨2, ![64, 1024]⟩ : Shape).Idx → EReal) (W : (⟨2, ![1024, 100000]⟩ : Shape).Idx → EReal) (B : (⟨1, ![100000]⟩ : Shape).Idx → EReal)
  (hX : ∀ r k, (V c main_arg0 : FVec Ideal S64x1024 .f32) (ix2 r k) = X (ix2 r k))
  (hW : ∀ v k, (V c main_v0 : FVec Ideal S100000x1024 .f32) (ix2 v k) = W (ix2 k v))
  (hB : ∀ v, (V c main_v1 : FVec Ideal S1x100000 .f32) (ix2 (0 : Fin 1) v) = B (ix1 v))

include hX hW hB in
/-- The scores of a tile, whatever the buffers' rests hold. -/
theorem tile_scores (t : Fin cfg0.N) (d1 : FVec Ideal S4096x1024 .f32) (d2 : FVec Ideal S1x4096 .f32) (r : Fin 64) (j : Fin 4096) :
    scores (grid0.coords t) (lgPad (rd V) c t d1 d2) (ix2 r j) = past (Spec.score X W B r) (t.val * 4096 + j.val) := by
  have ht : (grid0.coords t 0).val = t.val := coord_at t
  have hN : t.val < 25 := t.isLt
  rw [scores_past (Spec.score X W B) (grid0.coords t) (ht.symm ▸ hN) _ r (fun j hj => ?_) j, ht]
  have hj' : t.val * 4096 + j.val < 100000 := ht ▸ hj
  rw [lg_at (rd V) c t d1 d2 r j hj' X W B hX hW hB]
  unfold Spec.score
  simp only [ht]

include h hX hW hB

/-- The logits. -/
theorem logits_left : A main_v2_0 = (fun i => Spec.logit X W B (i 0) (i 1) : FVec Ideal S64x100000 .f32) := by
  obtain ⟨D, hD, e⟩ := exact_of h 3 rfl
  refine (show A main_v2_0 = D.arrAt 3 cfg0.N from e).trans ?_
  refine D.arrAt_eq_of_covers 3 (fun i => Spec.logit X W B (i 0) (i 1) : FVec Ideal S64x100000 .f32) (by decide +kernel) fun t hf y => ?_
  obtain ⟨d1, d2, hd⟩ := hD t hf
  rw [hd]
  have hs := size_3 t
  have h0 : (y 0).val < 64 := lt_of_lt_of_eq (y 0).2 (congrFun hs 0)
  have h1 : (y 1).val < min 4096 (100000 - t.val * 4096) := lt_of_lt_of_eq (y 1).2 (congrFun hs 1)
  have hv : t.val * 4096 + (y 1).val < 100000 := by omega
  refine (show _ = lgPad (rd V) c t d1 d2 (ix2 (⟨(y 0).val, h0⟩ : Fin 64) (⟨(y 1).val, by omega⟩ : Fin 4096)) from ?_).trans
    ((lg_at (rd V) c t d1 d2 ⟨(y 0).val, h0⟩ ⟨(y 1).val, by omega⟩ hv X W B hX hW hB).trans ?_)
  · refine congrArg (lgPad (rd V) c t d1 d2) (funext fun a => ?_)
    match a with
    | ⟨0, _⟩ => rfl
    | ⟨1, _⟩ => rfl
  · refine congrArg₂ (Spec.logit X W B) (Fin.ext ?_) (Fin.ext ?_)
    · blk_simp [index_3]
    · blk_simp [index_3]

/-- The greatest scores of the tiles' rows. -/
theorem tops_left (k : Fin 25 → Fin 64 → Fin 4096)
    (hk : ∀ t r, First (fun j : Fin 4096 => past (Spec.score X W B r) (t.val * 4096 + j.val)) (k t r)) :
    A main_v2_1 = topsOf (Spec.score X W B) k := by
  obtain ⟨D, hD, e⟩ := exact_of h 4 rfl
  refine (show A main_v2_1 = D.arrAt 4 cfg0.N from e).trans ?_
  refine D.arrAt_eq_of_covers 4 (topsOf (Spec.score X W B) k) (by decide +kernel) fun t hf y => ?_
  obtain ⟨d1, d2, hd⟩ := hD t hf
  rw [hd]
  have ht : (grid0.coords t 0).val = t.val := coord_at t
  have hN : t.val < 25 := t.isLt
  let r : Fin 64 := y 1
  have hs := fun j => tile_scores X W B hX hW hB t d1 d2 r j
  have hf' : First (fun j : Fin 4096 => scores (grid0.coords t) (lgPad (rd V) c t d1 d2) (ix2 r j)) (k ⟨t.val, hN⟩ r) := by
    rw [funext hs]; exact hk ⟨t.val, hN⟩ r
  have hy : (cfg0.win 4).xinj (cfg0.grid.coords t) y = ix3 (0 : Fin 1) r (0 : Fin 1) := funext fun a => by
    match a with
    | ⟨0, _⟩ => exact Subsingleton.elim (α := Fin 1) _ _
    | ⟨1, _⟩ => rfl
    | ⟨2, _⟩ => exact Subsingleton.elim (α := Fin 1) _ _
  have he : ((cfg0.win 4).blk t).view.emb y = ix3 (⟨t.val, hN⟩ : Fin 25) r (0 : Fin 1) := funext fun a => Fin.ext (by
    have h0 : (y 0).val < 1 := (y 0).2
    have h2 : (y 2).val < 1 := (y 2).2
    blk_simp [index_4]
    match a with
    | ⟨0, _⟩ => show t.val * 1 + (y 0).val = t.val; omega
    | ⟨1, _⟩ => show 0 * 64 + (y 1).val = (y 1).val; omega
    | ⟨2, _⟩ => show 0 * 1 + (y 2).val = 0; omega)
  rw [hy, he, cast_eq]
  exact ((top_at (grid0.coords t) _ r _ hf').trans (hs (k ⟨t.val, hN⟩ r))).trans (topsOf_at _ k ⟨t.val, hN⟩ r).symm

/-- The columns of those scores. -/
theorem args_left (k : Fin 25 → Fin 64 → Fin 4096)
    (hk : ∀ t r, First (fun j : Fin 4096 => past (Spec.score X W B r) (t.val * 4096 + j.val)) (k t r)) :
    A main_v2_2 = argsOf k := by
  obtain ⟨D, hD, e⟩ := exact_of h 5 rfl
  refine (show A main_v2_2 = D.arrAt 5 cfg0.N from e).trans ?_
  refine D.arrAt_eq_of_covers 5 (argsOf k) (by decide +kernel) fun t hf y => ?_
  obtain ⟨d1, d2, hd⟩ := hD t hf
  rw [hd]
  have ht : (grid0.coords t 0).val = t.val := coord_at t
  have hN : t.val < 25 := t.isLt
  let r : Fin 64 := y 1
  have hs := fun j => tile_scores X W B hX hW hB t d1 d2 r j
  have hf' : First (fun j : Fin 4096 => scores (grid0.coords t) (lgPad (rd V) c t d1 d2) (ix2 r j)) (k ⟨t.val, hN⟩ r) := by
    rw [funext hs]; exact hk ⟨t.val, hN⟩ r
  have hy : (cfg0.win 5).xinj (cfg0.grid.coords t) y = ix3 (0 : Fin 1) r (0 : Fin 1) := funext fun a => by
    match a with
    | ⟨0, _⟩ => exact Subsingleton.elim (α := Fin 1) _ _
    | ⟨1, _⟩ => rfl
    | ⟨2, _⟩ => exact Subsingleton.elim (α := Fin 1) _ _
  have he : ((cfg0.win 5).blk t).view.emb y = ix3 (⟨t.val, hN⟩ : Fin 25) r (0 : Fin 1) := funext fun a => Fin.ext (by
    have h0 : (y 0).val < 1 := (y 0).2
    have h2 : (y 2).val < 1 := (y 2).2
    blk_simp [index_5]
    match a with
    | ⟨0, _⟩ => show t.val * 1 + (y 0).val = t.val; omega
    | ⟨1, _⟩ => show 0 * 64 + (y 1).val = (y 1).val; omega
    | ⟨2, _⟩ => show 0 * 1 + (y 2).val = 0; omega)
  rw [hy, he, cast_eq]
  have e1 := arg_at (grid0.coords t) (ht.symm ▸ hN) _ r _ hf'
  rw [ht] at e1
  exact e1.trans (argsOf_at k ⟨t.val, hN⟩ r).symm

end

end Cert.Proof.Tiles

end
-- ==== Proof.RefLine.lean ====
/-
  The reference as one line of host operations: the line read off its `main`, what each operation writes, and the run.
-/
module

public import proofs.«01_k».proof.Proof.Gen.ReferenceIdeal
public import Idealize.ShloMosaic.Lib.StableHlo.RunHlo
public import Idealize.ShloMosaic.Lib.Quiescent

@[expose] public section

namespace Cert.Proof.Plain

open Cert.ReferenceIdeal
open Idealize.ShloMosaic Idealize.SL.Sem Idealize.ShloMosaic.StableHlo

noncomputable section

variable {F : FTy → Type} [FloatOps F]

/-- A program of the reference's signature. -/
abbrev Text (F : FTy → Type) [FloatOps F] := Prog (TpuEff nD τ sig (Elt F) (Pipeline.Sig Λ₀ (Fin 0) fun p => (pcfgs (F := F) p).Adm) .tc) PUnit
/-- One of its operations. -/
abbrev Op (F : FTy → Type) [FloatOps F] := HloOp τ sig (Elt F)

theorem follow {p q : Text F} {a b : List (Op F)} (hp : IsSeq p a) (hq : IsSeq q b) : IsSeq (p >>= fun _ => q) (a ++ b) := by
  unfold IsSeq at *; rw [hp, hq, seq_append]

/-- The counter's hash, in the four stretches the text is cut into. -/
def hash0 : {l : List (Op F) // IsSeq (fn_threefry2x32.body_part0 main_call0.v5 main_call0.v7 main_call0.v18 main_call0.v17 main_call0_call0) l} := by
  apply Subtype.mk; unfold fn_threefry2x32.body_part0; hlo_seq
def hash1 : {l : List (Op F) // IsSeq (fn_threefry2x32.body_part1 main_call0.v5 main_call0.v7 main_call0.v18 main_call0.v17 main_call0_call0) l} := by
  apply Subtype.mk; unfold fn_threefry2x32.body_part1; hlo_seq
def hash2 : {l : List (Op F) // IsSeq (fn_threefry2x32.body_part2 main_call0.v5 main_call0.v7 main_call0.v18 main_call0.v17 main_call0_call0) l} := by
  apply Subtype.mk; unfold fn_threefry2x32.body_part2; hlo_seq
def hash3 : {l : List (Op F) // IsSeq (fn_threefry2x32.body_part3 main_call0.v5 main_call0.v7 main_call0.v18 main_call0.v17 main_call0_call0) l} := by
  apply Subtype.mk; unfold fn_threefry2x32.body_part3; hlo_seq

theorem hash_seq : IsSeq (fn_threefry2x32.body (F := F) main_call0.v5 main_call0.v7 main_call0.v18 main_call0.v17 main_call0_call0)
    (hash0.1 ++ (hash1.1 ++ (hash2.1 ++ hash3.1))) :=
  follow hash0.2 (follow hash1.2 (follow hash2.2 hash3.2))

/-- The uniform draw. -/
def draw : {l : List (Op F) // IsSeq (fn_uniform.body (.of main_v21) (.of main_cst_4) (.of main_cst_5) main_call0) l} := by
  apply Subtype.mk; unfold fn_uniform.body
  repeat (first | exact IsSeq.nil | apply IsSeq.cons | refine follow hash_seq ?_)

/-- The choice of the largest score. -/
def choice : {l : List (Op F) // IsSeq (fn_argmax.body (.of main_v34) main_call1) l} := by
  apply Subtype.mk; unfold fn_argmax.body; hlo_seq

/-- The whole reference. -/
def whole (d : Dev nD) : {l : List (Op F) // IsSeq (main (F := F) d) l} := by
  apply Subtype.mk; unfold main
  repeat (first | exact IsSeq.nil | apply IsSeq.cons | refine follow draw.2 ?_ | refine follow choice.2 ?_)

/-- The line. -/
def line : List (Op F) := (whole (F := F) 0).1

theorem main_line (d : Dev nD) : IsSeq (main (F := F) d) line := by
  obtain rfl : d = 0 := Subsingleton.elim _ _
  exact (whole 0).2

theorem line_length : (line (F := F)).length = 312 := by rfl

/-- The buffer that the line's operation at a position writes: they are numbered in order, after the three arguments. -/
def slot (k : Fin 312) : Ref sig .tc := ⟨.hbm, ⟨k.val + 3, Nat.add_lt_add_right k.2 3⟩, rfl⟩

theorem line_writes : (line (F := F)).map HloOp.writes = (List.finRange 312).map fun k => {Proc.devRef (τ := τ) .tc (slot k)} := by rfl

theorem line_fresh : (line (F := F)).map HloOp.fresh = (line (F := F)).map fun _ => ∅ := by rfl

/-- A line all of whose operations name TensorCore buffers only. -/
def Near (l : List (Op F)) : Prop := l.Forall fun op => op.bufs ⊆ tcRefs τ sig

theorem near_nil : Near ([] : List (Op F)) ↔ True := Iff.rfl
theorem near_cons {op : Op F} {l : List (Op F)} : Near (op :: l) ↔ op.bufs ⊆ tcRefs τ sig ∧ Near l := List.forall_cons _ _ _
theorem near_append {a b : List (Op F)} : Near (a ++ b) ↔ Near a ∧ Near b := List.forall_append

theorem hash0_near : Near (hash0 (F := F)).1 := by
  unfold hash0
  simp only [near_cons, near_append, near_nil, nullary_bufs_sub, unary_bufs_sub, binary_bufs_sub, reshape_bufs_sub, quaternary_bufs_sub, and_self]

theorem hash1_near : Near (hash1 (F := F)).1 := by
  unfold hash1
  simp only [near_cons, near_append, near_nil, nullary_bufs_sub, unary_bufs_sub, binary_bufs_sub, reshape_bufs_sub, quaternary_bufs_sub, and_self]

theorem hash2_near : Near (hash2 (F := F)).1 := by
  unfold hash2
  simp only [near_cons, near_append, near_nil, nullary_bufs_sub, unary_bufs_sub, binary_bufs_sub, reshape_bufs_sub, quaternary_bufs_sub, and_self]

theorem hash3_near : Near (hash3 (F := F)).1 := by
  unfold hash3
  simp only [near_cons, near_append, near_nil, nullary_bufs_sub, unary_bufs_sub, binary_bufs_sub, reshape_bufs_sub, quaternary_bufs_sub, and_self]

theorem draw_near : Near (draw (F := F)).1 := by
  unfold draw
  simp only [near_cons, near_append, near_nil, nullary_bufs_sub, unary_bufs_sub, binary_bufs_sub, reshape_bufs_sub, quaternary_bufs_sub, and_self, hash0_near, hash1_near, hash2_near, hash3_near]

theorem choice_near : Near (choice (F := F)).1 := by
  unfold choice
  simp only [near_cons, near_append, near_nil, nullary_bufs_sub, unary_bufs_sub, binary_bufs_sub, reshape_bufs_sub, quaternary_bufs_sub, and_self]

theorem line_near : Near (line (F := F)) := by
  unfold line whole
  simp only [near_cons, near_append, near_nil, nullary_bufs_sub, unary_bufs_sub, binary_bufs_sub, reshape_bufs_sub, quaternary_bufs_sub, and_self, draw_near, choice_near]

/-- The reference's run: every buffer ends at what the line leaves there, and no semaphore is touched. -/
theorem run (m : (ℓ : Loc nD τ sig) → Buf (Elt F) ℓ) (g : Dev nD → PrngReg) :
    θ_run defs (onTc (τ := τ) (main (F := F))) ⟨m, fun _ => 0, g⟩ fun r =>
      (∀ (d : Dev nD) (b : Ref sig .tc), r.2.mem ((d.tc : Thread nD τ).loc b) = after line (launchContents m d) (Proc.devRef .tc b))
        ∧ r.2.sem = fun _ => 0 :=
  θ_run_mono (run_hlo defs main main_line (by decide) (by decide) line_near
    (List.forall_iff_forall_mem.mp (forall_fresh_of_map line_fresh)) m g)
    fun r h => ⟨h, sem_eq_zero_of_no_sems rfl r.2⟩

/-- A buffer's number. -/
def num (b : Ref sig .tc) : ℕ := b.idx.val

theorem num_slot (k : Fin 312) : num (slot k) = k.val + 3 := rfl

/-- What stands from a position of the line on leaves the buffers numbered below alone. -/
theorem later_keeps (i : ℕ) (U : Valuation τ sig (Elt F)) {r : Ref sig .tc} (h : num r < i + 3) :
    after (line.drop i) U (Proc.devRef .tc r) = U (Proc.devRef .tc r) := by
  refine after_of_writes_sub (W := ((List.finRange 312).drop i).map slot) _ U (forall_writes_sub_of_map ?_) ?_
  · rw [List.map_drop, line_writes, List.map_map, ← List.map_drop]; rfl
  · intro hm
    obtain ⟨k, hk, rfl⟩ := List.mem_map.mp hm
    obtain ⟨n, hn, hk⟩ := List.mem_iff_getElem.mp hk
    rw [List.getElem_drop, List.getElem_finRange] at hk
    rw [num_slot, ← hk] at h
    simp only [Fin.cast_mk] at h
    omega

/-- An argument ends as launched. -/
theorem line_keeps (V : Valuation τ sig (Elt F)) {r : Ref sig .tc} (h : num r < 3) :
    after line V (Proc.devRef .tc r) = V (Proc.devRef .tc r) := later_keeps 0 V h

end

end Cert.Proof.Plain

end
-- ==== Proof.Frames.lean ====
/-
  What the run leaves of the arguments and the semaphores: the ones as they were, the others at zero.
-/
module

public import proofs.«01_k».proof.Proof.Run
public import proofs.«01_k».proof.Proof.RefLine
public import proofs.«01_k».proof.Proof.Gen.Kernel
public import proofs.«01_k».proof.Defs

@[expose] public section

noncomputable section

namespace Cert.Proof.Tiles

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- A reference that no stretch and no region writes ends as launched. -/
theorem Ends.kept {m : (ℓ : Loc nD τ sig) → Buf (Elt F) ℓ} {c : Dev nD} {s : MemSt nD τ sig (Elt F)} (h : Ends m c s) (r : Ref sig .tc)
    (hu : Proc.devRef .tc r ∈ Pipeline.ucRefs τ sig)
    (h0 : r ∉ hostOps0_W) (h1 : r ∉ ([main_v2_0, main_v2_1, main_v2_2] : List (Ref sig .tc))) (h2 : r ≠ main_v3) (h3 : r ∉ hostOps2_W) :
    s.mem ((c : Thread nD τ).loc r) = m ((c : Thread nD τ).loc r) := by
  obtain ⟨o, ho, hb⟩ := h
  refine (hb (Proc.devRef .tc r) hu).trans ?_
  refine (StableHlo.after_of_writes_sub hostOps2 _ hostOps2_writes h3).trans ?_
  exact (put1_of o c r h2).trans ((ho.1 r h1).trans (V1_of m c r h0))

theorem mem_uc (r : Ref sig .tc) (h : (Proc.devRef .tc r : DevRef τ sig).isScoped = false) : (Proc.devRef .tc r : DevRef τ sig) ∈ Pipeline.ucRefs τ sig :=
  Finset.mem_filter.mpr ⟨StableHlo.devRef_mem_tcRefs r, by rw [h]; decide⟩

theorem Ends.args {m : (ℓ : Loc nD τ sig) → Buf (Elt F) ℓ} {c : Dev nD} {s : MemSt nD τ sig (Elt F)} (h : Ends m c s) :
    s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2) :=
  ⟨h.kept main_arg0 (mem_uc _ rfl) (by decide) (by decide) (by decide) (by decide),
    h.kept main_arg1 (mem_uc _ rfl) (by decide) (by decide) (by decide) (by decide),
    h.kept main_arg2 (mem_uc _ rfl) (by decide) (by decide) (by decide) (by decide)⟩

/-- The frame of the program at any instance of the floats. -/
theorem frame (g : Dev nD → PrngReg) : θ_run defs (onTc (τ := τ) (main (F := F))) ⟨m, fun _ => 0, g⟩
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => (h.1 c).args, h.2⟩) (run m g)

end Cert.Proof.Tiles

namespace Cert.Proof

open Idealize.ShloMosaic

theorem frame_ideal : Cert.quiescent_KernelIdeal (hKernelIdeal := Cert.KernelIdeal.Gen.facts) := fun m g _ => Tiles.frame m g

/-- The kernel bodies as printed are those of the idealized print: one text under two names. -/
theorem bodies_same : @Cert.Kernel.defs₀ Bits _ _ = @Cert.KernelIdeal.defs₀ Bits _ _ := by
  unfold Cert.Kernel.defs₀ Cert.KernelIdeal.defs₀
  refine congrArg Defs.onTc (funext fun l => funext fun a => ?_)
  match l with
  | 0 => rfl
  | 1 => rfl

theorem defs_same : @Cert.Kernel.defs Bits _ _ = @Cert.KernelIdeal.defs Bits _ _ := by
  unfold Cert.Kernel.defs Cert.KernelIdeal.defs
  rw [bodies_same]; rfl

theorem main_same : @Cert.Kernel.main Bits _ = @Cert.KernelIdeal.main Bits _ := by
  unfold Cert.Kernel.main Cert.KernelIdeal.main
  rfl

/-- The frame of the program as printed, by that identity of the two texts. -/
theorem frame_bits : Cert.quiescent_Kernel (hKernel := Cert.Kernel.Gen.facts) := by
  intro m g _
  have h := Tiles.frame (F := Bits) m g
  rw [← defs_same, ← main_same] at h
  exact h

theorem frame_ref : Cert.quiescent_ReferenceIdeal (hReferenceIdeal := Cert.ReferenceIdeal.Gen.facts) := fun m g _ =>
  θ_run_mono (Plain.run m g) fun r h =>
    ⟨fun c => ⟨(h.1 c _).trans (Plain.line_keeps _ (by decide)), (h.1 c _).trans (Plain.line_keeps _ (by decide)),
      (h.1 c _).trans (Plain.line_keeps _ (by decide))⟩, h.2⟩

end Cert.Proof

end
-- ==== Proof.Result.lean ====
/-
  The two results of the program with the kernels, over the extended reals: the logits and, in each row, the first column
  of the greatest score.
-/
module

public import proofs.«01_k».proof.Proof.Arrays
public import proofs.«01_k».proof.Proof.Frames

@[expose] public section

noncomputable section

namespace Cert.Proof.Tiles

open Cert.KernelIdeal Cert.KernelIdeal.Gen
open Idealize.ShloMosaic Idealize.ShloMosaic.TcCoe
open Idealize.ShloMosaic.Pipeline (Window Dat RDat)
open Cert.Proof.Pick

/-! ## The merging kernel's array -/

section
variable (V : (c : Dev nD) → (b : Ref sig .tc) → Buf (Elt Ideal) ((c : Thread nD τ).loc b)) (c : Dev nD) (t : Fin cfg1.N)

theorem topIn_eq : topIn V c t = (V c main_v2_1 : FVec Ideal S25x64x1 .f32) := by
  unfold topIn
  funext y
  rw [View.read_apply]
  refine congrArg (V c main_v2_1 : FVec Ideal S25x64x1 .f32) (funext fun a => Fin.ext ?_)
  blk_simp
  match a with
  | ⟨0, _⟩ => show 0 * 25 + (y 0).val = (y 0).val; omega
  | ⟨1, _⟩ => show 0 * 64 + (y 1).val = (y 1).val; omega
  | ⟨2, _⟩ => show 0 * 1 + (y 2).val = (y 2).val; omega

theorem argIn_eq : argIn V c t = (V c main_v2_2 : IVec S25x64x1 32) := by
  unfold argIn
  funext y
  rw [View.read_apply]
  refine congrArg (V c main_v2_2 : IVec S25x64x1 32) (funext fun a => Fin.ext ?_)
  blk_simp
  match a with
  | ⟨0, _⟩ => show 0 * 25 + (y 0).val = (y 0).val; omega
  | ⟨1, _⟩ => show 0 * 64 + (y 1).val = (y 1).val; omega
  | ⟨2, _⟩ => show 0 * 1 + (y 2).val = (y 2).val; omega

end

theorem merged_eq (o : Left (F := Ideal)) (c : Dev nD) :
    merged o c = k1_pay1 (F := Ideal) (o c main_v2_1 : FVec Ideal S25x64x1 .f32) (o c main_v2_2 : IVec S25x64x1 32) := by
  unfold merged
  refine (dat1 (rd o) c).arrAt_eq_of_covers 2 (k1_pay1 (F := Ideal) (o c main_v2_1 : FVec Ideal S25x64x1 .f32) (o c main_v2_2 : IVec S25x64x1 32)) (by decide +kernel) fun t hf y => ?_
  rw [cast_eq, show (dat1 (rd o) c).after 2 t = k1_pay1 (topIn (rd o) c t) (argIn (rd o) c t) from rfl, topIn_eq, argIn_eq]
  refine congrArg (k1_pay1 (F := Ideal) (o c main_v2_1 : FVec Ideal S25x64x1 .f32) (o c main_v2_2 : IVec S25x64x1 32)) (funext fun a => Fin.ext ?_)
  blk_simp
  match a with
  | ⟨0, _⟩ => show (y 0).val = 0 * 1 + (y 0).val; omega
  | ⟨1, _⟩ => show (y 1).val = 0 * 64 + (y 1).val; omega
  | ⟨2, _⟩ => show (y 2).val = 0 * 1 + (y 2).val; omega

/-! ## The host's stretches -/

section
variable (m : (ℓ : Loc nD τ sig) → Buf (Elt Ideal) ℓ) (c : Dev nD)

/-- The arguments as launched. -/
abbrev argX : FVec Ideal S64x1024 .f32 := m ((c : Thread nD τ).loc main_arg0)
abbrev argW : FVec Ideal S1024x100000 .f32 := m ((c : Thread nD τ).loc main_arg1)
abbrev argB : FVec Ideal S100000 .f32 := m ((c : Thread nD τ).loc main_arg2)

theorem entry_x (r : Fin 64) (k : Fin 1024) : (V1 m c main_arg0 : FVec Ideal S64x1024 .f32) (ix2 r k) = argX m c (ix2 r k) :=
  congrFun (V1_of m c main_arg0 (by decide)) (ix2 r k)

theorem entry_w (v : Fin 100000) (k : Fin 1024) : (V1 m c main_v0 : FVec Ideal S100000x1024 .f32) (ix2 v k) = argW m c (ix2 k v) := by
  have e : (V1 m c main_v0 : FVec Ideal S100000x1024 .f32) = transpose S100000x1024 [1, 0] (argW m c) transposes_S1024x100000_S100000x1024_1_0 := by
    unfold V1 hostOps0
    rw [StableHlo.after_cons, StableHlo.after_cons, StableHlo.after_nil, StableHlo.reshape_result_ne (h := by decide), StableHlo.unary_result']
  rw [e]
  pointwise

theorem entry_b (v : Fin 100000) : (V1 m c main_v1 : FVec Ideal S1x100000 .f32) (ix2 (0 : Fin 1) v) = argB m c (ix1 v) := by
  have e : (V1 m c main_v1 : FVec Ideal S1x100000 .f32) = shapeCast S1x100000 (argB m c) shapeCasts_S100000_S1x100000 := by
    unfold V1 hostOps0
    rw [StableHlo.after_cons, StableHlo.after_cons, StableHlo.after_nil, StableHlo.reshape_result', StableHlo.unary_result_ne (h := by decide)]
    rfl
  rw [e]
  pointwise

theorem exit_choice (V : Valuation τ sig (Elt Ideal)) (r : Fin 64) :
    (StableHlo.after hostOps2 V main_v4 : IVec S64 32) (ix1 r) = (V main_v3 : IVec S1x64x1 32) (ix3 (0 : Fin 1) r (0 : Fin 1)) := by
  have e : (StableHlo.after hostOps2 V main_v4 : IVec S64 32) = shapeCast S64 (V main_v3 : IVec S1x64x1 32) shapeCasts_S1x64x1_S64 := by
    unfold hostOps2
    rw [StableHlo.after_cons, StableHlo.after_nil, StableHlo.reshape_result']
    rfl
  rw [e]
  pointwise

end

/-! ## The results -/

variable {m : (ℓ : Loc nD τ sig) → Buf (Elt Ideal) ℓ} {c : Dev nD} {s : MemSt nD τ sig (Elt Ideal)} (h : Ends m c s)
include h

theorem Ends.logits : s.mem ((c : Thread nD τ).loc main_v2_0) = (fun i => Spec.logit (argX m c) (argW m c) (argB m c) (i 0) (i 1) : FVec Ideal S64x100000 .f32) := by
  obtain ⟨o, ho, hb⟩ := h
  refine (hb (Proc.devRef .tc main_v2_0) (mem_uc _ rfl)).trans ?_
  refine (StableHlo.after_of_writes_sub hostOps2 _ hostOps2_writes (by decide : main_v2_0 ∉ hostOps2_W)).trans ?_
  refine (put1_of o c main_v2_0 (by decide)).trans ?_
  exact logits_left ho _ _ _ (entry_x m c) (entry_w m c) (entry_b m c)

theorem Ends.choice (v : Fin 64 → Fin 100000) (hv : ∀ r, First (Spec.score (argX m c) (argW m c) (argB m c) r) (v r)) :
    s.mem ((c : Thread nD τ).loc main_v4) = (fun i => BitVec.ofNat 32 (v (i 0)).val : IVec S64 32) := by
  obtain ⟨o, ho, hb⟩ := h
  choose k hk using fun (t : Fin 25) (r : Fin 64) => exists_first (by decide : 0 < 4096)
    fun j : Fin 4096 => past (Spec.score (argX m c) (argW m c) (argB m c) r) (t.val * 4096 + j.val)
  have h1 := tops_left ho _ _ _ (entry_x m c) (entry_w m c) (entry_b m c) k hk
  have h2 := args_left ho _ _ _ (entry_x m c) (entry_w m c) (entry_b m c) k hk
  refine (hb (Proc.devRef .tc main_v4) (mem_uc _ rfl)).trans ?_
  funext i
  obtain ⟨r, rfl⟩ : ∃ r : Fin 64, i = ix1 r := ⟨i 0, funext fun a => match a with | ⟨0, _⟩ => rfl⟩
  refine (exit_choice (put1 o c) r).trans ?_
  have e3 : (put1 o c main_v3 : IVec S1x64x1 32) = merged o c := by unfold put1; rw [Function.update_self]
  rw [e3, merged_eq, h1, h2]
  exact merge_first (Spec.score (argX m c) (argW m c) (argB m c)) _ _ r (fun t => k t r) (fun t => hk t r)
    (fun t => topsOf_at _ k t r) (fun t => argsOf_at k t r) (v r) (hv r)

end Cert.Proof.Tiles

end
-- ==== Proof.RefHash.lean ====
/-
  What the reference's line leaves in its buffers, read off the line one stretch at a time: the counter's hash.
-/
module

public import proofs.«01_k».proof.Proof.RefLine
public import proofs.«01_k».proof.Proof.Words

@[expose] public section

namespace Cert.Proof.Plain

open Cert.ReferenceIdeal Cert.ReferenceIdeal.Facts₀ Cert.ReferenceIdeal.Facts
open Idealize.ShloMosaic Idealize.SL.Sem Idealize.ShloMosaic.StableHlo
open Cert.Proof.Words

noncomputable section

variable {F : FTy → Type} [FloatOps F]

/-- What the line leaves in a value's buffer. -/
def val (V : Valuation τ sig (Elt F)) {T : BufTy} (x : TRef sig T) : T.Contents (Elt F) :=
  x.ofBuf (after line V (Proc.devRef .tc x.ref))

theorem after_two (a b : List (Op F)) (V : Valuation τ sig (Elt F)) : after (a ++ b) V = after b (after a V) := by
  induction a generalizing V with
  | nil => rfl
  | cons op a ih => exact ih _

/-- Before a position of the line, the buffers numbered below already hold what they end with. -/
theorem settled (V : Valuation τ sig (Elt F)) {i : ℕ} {r : Ref sig .tc} (h : num r < i + 3) :
    after (line.take i) V (Proc.devRef .tc r) = after line V (Proc.devRef .tc r) := by
  conv_rhs => rw [← List.take_append_drop i (line (F := F)), after_two]
  exact (later_keeps i _ h).symm

/-- What the operation at a position writes stays. -/
theorem stays (V : Valuation τ sig (Elt F)) {i : ℕ} {op : Op F} {r : Ref sig .tc} (h : (line (F := F))[i]? = some op) (hr : num r = i + 3) :
    after line V (Proc.devRef .tc r) = op.result (after (line.take i) V) (Proc.devRef .tc r) := by
  obtain ⟨hi, h⟩ := List.getElem?_eq_some_iff.mp h
  conv_lhs => rw [← List.take_append_drop i (line (F := F)), after_two, List.drop_eq_getElem_cons hi, after_cons, h]
  exact later_keeps (i + 1) _ (by omega)

section
variable (V : Valuation τ sig (Elt F)) {i : ℕ} {Tx Ta Tb Tc Te Ty : BufTy}

theorem val_nullary {y : TRef sig Ty} {v : Ty.Contents (Elt F)} (h : (line (F := F))[i]? = some (TRef.nullary y v)) (hy : num y.ref = i + 3) :
    val V y = v := by
  unfold val; rw [stays V h hy, nullary_result']; simp only [TRef.ofBuf, TRef.toBuf, cast_cast, cast_eq]

theorem val_unary {x : TRef sig Tx} {y : TRef sig Ty} {f : Tx.Contents (Elt F) → Ty.Contents (Elt F)}
    (h : (line (F := F))[i]? = some (TRef.unary x y f)) (hy : num y.ref = i + 3) (hx : num x.ref < i + 3) : val V y = f (val V x) := by
  unfold val; rw [stays V h hy, unary_result', settled V hx]; simp only [TRef.ofBuf, TRef.toBuf, cast_cast, cast_eq]

theorem val_binary {a : TRef sig Ta} {b : TRef sig Tb} {y : TRef sig Ty} {f : Ta.Contents (Elt F) → Tb.Contents (Elt F) → Ty.Contents (Elt F)}
    (h : (line (F := F))[i]? = some (TRef.binary a b y f)) (hy : num y.ref = i + 3) (ha : num a.ref < i + 3) (hb : num b.ref < i + 3) :
    val V y = f (val V a) (val V b) := by
  unfold val; rw [stays V h hy, binary_result', settled V ha, settled V hb]; simp only [TRef.ofBuf, TRef.toBuf, cast_cast, cast_eq]

theorem val_quaternary {a : TRef sig Ta} {b : TRef sig Tb} {c : TRef sig Tc} {e : TRef sig Te} {y : TRef sig Ty}
    {f : Ta.Contents (Elt F) → Tb.Contents (Elt F) → Tc.Contents (Elt F) → Te.Contents (Elt F) → Ty.Contents (Elt F)}
    (h : (line (F := F))[i]? = some (TRef.quaternary a b c e y f)) (hy : num y.ref = i + 3) (ha : num a.ref < i + 3) (hb : num b.ref < i + 3)
    (hc : num c.ref < i + 3) (he : num e.ref < i + 3) : val V y = f (val V a) (val V b) (val V c) (val V e) := by
  unfold val; rw [stays V h hy, quaternary_result', settled V ha, settled V hb, settled V hc, settled V he]
  simp only [TRef.ofBuf, TRef.toBuf, cast_cast, cast_eq]
end

/-- A stretch of the line, one operation after another. -/
theorem stretch_getElem? {i n : ℕ} {l : List (Op F)} (h : (line.drop i).take n = l) (hn : l.length = n) (k : ℕ) (hk : k < n) :
    (line (F := F))[i + k]? = l[k]? := by
  rw [← h, List.getElem?_take_of_lt hk, List.getElem?_drop]

/-! ## The hash -/

/-- A block of words, and one word. -/
abbrev Wide : BufTy := ⟨S64x100000, .i32⟩
abbrev One : BufTy := ⟨S_, .i32⟩

/-- A word spread over a block. -/
abbrev spread : One.Contents (Elt F) → Wide.Contents (Elt F) := broadcastInDim S64x100000 ![] bcast_S_S64x100000

/-- Two blocks' words at an element. -/
def two (V : Valuation τ sig (Elt F)) (x y : TRef sig Wide) (j : S64x100000.Idx) : St := (val V x j, val V y j)

/-- A turn's nine operations, on two blocks. -/
abbrev turnOps (x0 x1 a d l d' r o y : TRef sig Wide) (c c' : TRef sig One) (s s' : BitVec 32) : List (Op F) :=
  [TRef.binary x0 x1 a addi, TRef.nullary c (constantI S_ 32 s), TRef.unary c d spread, TRef.binary x1 d l Host.shli,
   TRef.nullary c' (constantI S_ 32 s'), TRef.unary c' d' spread, TRef.binary x1 d' r Host.shrui, TRef.binary l r o ori, TRef.binary a o y xori]

theorem turned (V : Valuation τ sig (Elt F)) (i : ℕ) (x0 x1 a d l d' r o y : TRef sig Wide) (c c' : TRef sig One) (s s' : BitVec 32)
    (h : ((line (F := F)).drop i).take 9 = turnOps x0 x1 a d l d' r o y c c' s s')
    (n : [a.ref, c.ref, d.ref, l.ref, c'.ref, d'.ref, r.ref, o.ref, y.ref].map num = (List.range 9).map (i + · + 3))
    (n0 : num x0.ref < i + 3) (n1 : num x1.ref < i + 3) (j : S64x100000.Idx) :
    two V a y j = turn s s' (two V x0 x1 j) := by
  have g := stretch_getElem? h rfl
  simp only [List.map_cons, List.map_nil, List.range_succ, List.range_zero, List.map_append, List.nil_append, List.cons_append,
    List.cons.injEq, and_true] at n
  obtain ⟨na, nc, nd, nl, nc', nd', nr, no, ny⟩ := n
  have ea := val_binary V (g 0 (by omega)) na (by omega) (by omega)
  have ec := val_nullary V (g 1 (by omega)) nc
  have ed := val_unary V (g 2 (by omega)) nd (by omega)
  have el := val_binary V (g 3 (by omega)) nl (by omega) (by omega)
  have ec' := val_nullary V (g 4 (by omega)) nc'
  have ed' := val_unary V (g 5 (by omega)) nd' (by omega)
  have er := val_binary V (g 6 (by omega)) nr (by omega) (by omega)
  have eo := val_binary V (g 7 (by omega)) no (by omega) (by omega)
  have ey := val_binary V (g 8 (by omega)) ny (by omega) (by omega)
  have e1 : val V l j = IntOp.shli .vector (val V x1 j) s := by
    rw [el, ed, ec]; exact shli_unit .host .vector _ _
  have e2 : val V r j = IntOp.shrui .vector (val V x1 j) s' := by
    rw [er, ed', ec']; exact shrui_unit .host .vector _ _
  have e3 : val V o j = IntOp.ori (IntOp.shli .vector (val V x1 j) s) (IntOp.shrui .vector (val V x1 j) s') := by
    rw [eo, ← e1, ← e2]; rfl
  have e4 : val V a j = IntOp.addi (val V x0 j) (val V x1 j) := by rw [ea]; rfl
  have e5 : val V y j = IntOp.xori (IntOp.addi (val V x0 j) (val V x1 j))
      (IntOp.ori (IntOp.shli .vector (val V x1 j) s) (IntOp.shrui .vector (val V x1 j) s')) := by
    rw [ey, ← e3, ← e4]; rfl
  exact Prod.ext e4 e5

/-- A key injection's seven operations. -/
abbrev injectOps (x0 x1 b u b' w d y : TRef sig Wide) (k k' c : TRef sig One) (m : BitVec 32) : List (Op F) :=
  [TRef.unary k b spread, TRef.binary x0 b u addi, TRef.unary k' b' spread, TRef.binary x1 b' w addi,
   TRef.nullary c (constantI S_ 32 m), TRef.unary c d spread, TRef.binary w d y addi]

theorem injected (V : Valuation τ sig (Elt F)) (i : ℕ) (x0 x1 b u b' w d y : TRef sig Wide) (k k' c : TRef sig One) (m K K' : BitVec 32)
    (hk : ∀ q, val V k q = K) (hk' : ∀ q, val V k' q = K')
    (h : ((line (F := F)).drop i).take 7 = injectOps x0 x1 b u b' w d y k k' c m)
    (n : [b.ref, u.ref, b'.ref, w.ref, c.ref, d.ref, y.ref].map num = (List.range 7).map (i + · + 3))
    (n0 : num x0.ref < i + 3) (n1 : num x1.ref < i + 3) (nk : num k.ref < i + 3) (nk' : num k'.ref < i + 3) (j : S64x100000.Idx) :
    two V u y j = inject K (IntOp.addi K' m) (two V x0 x1 j) := by
  have g := stretch_getElem? h rfl
  simp only [List.map_cons, List.map_nil, List.range_succ, List.range_zero, List.map_append, List.nil_append, List.cons_append,
    List.cons.injEq, and_true] at n
  obtain ⟨nb, nu, nb', nw, nc, nd, ny⟩ := n
  have eb := val_unary V (g 0 (by omega)) nb (by omega)
  have eu := val_binary V (g 1 (by omega)) nu (by omega) (by omega)
  have eb' := val_unary V (g 2 (by omega)) nb' (by omega)
  have ew := val_binary V (g 3 (by omega)) nw (by omega) (by omega)
  have ec := val_nullary V (g 4 (by omega)) nc
  have ed := val_unary V (g 5 (by omega)) nd (by omega)
  have ey := val_binary V (g 6 (by omega)) ny (by omega) (by omega)
  have e1 : val V u j = IntOp.addi (val V x0 j) K := by rw [eu, eb, ← hk _]; rfl
  have e2 : val V w j = IntOp.addi (val V x1 j) K' := by rw [ew, eb', ← hk' _]; rfl
  have e3 : val V y j = IntOp.addi (val V x1 j) (IntOp.addi K' m) := by
    have : val V y j = IntOp.addi (val V w j) m := by rw [ey, ed, ec]; rfl
    rw [this, e2]; exact BitVec.add_assoc _ _ _
  exact Prod.ext e1 e3

/-- The buffers of the uniform draw, and of the hash in it. -/
abbrev dr : fn_uniform.Bufs := main_call0
abbrev ha : fn_threefry2x32.Bufs := main_call0_call0

theorem stretch0 (V : Valuation τ sig (Elt F)) (j : S64x100000.Idx) : two V ha.v27 ha.v33 j = odd (two V ha.v3 ha.v5 j) := by
  unfold odd
  rw [← turned V 59 ha.v3 ha.v5 ha.v6 ha.v7 ha.v8 ha.v9 ha.v10 ha.v11 ha.v12 ha.c_0 ha.c_1 13 19 (by rfl) (by decide) (by decide) (by decide),
    ← turned V 68 ha.v6 ha.v12 ha.v13 ha.v14 ha.v15 ha.v16 ha.v17 ha.v18 ha.v19 ha.c_2 ha.c_3 15 17 (by rfl) (by decide) (by decide) (by decide),
    ← turned V 77 ha.v13 ha.v19 ha.v20 ha.v21 ha.v22 ha.v23 ha.v24 ha.v25 ha.v26 ha.c_4 ha.c_5 26 6 (by rfl) (by decide) (by decide) (by decide),
    ← turned V 86 ha.v20 ha.v26 ha.v27 ha.v28 ha.v29 ha.v30 ha.v31 ha.v32 ha.v33 ha.c_6 ha.c_7 6 26 (by rfl) (by decide) (by decide) (by decide)]

theorem key0 (V : Valuation τ sig (Elt F)) {K K' : BitVec 32} (hk : ∀ q, val V dr.v7 q = K) (hk' : ∀ q, val V ha.v1 q = K') (j : S64x100000.Idx) :
    two V ha.v35 ha.v39 j = inject K (IntOp.addi K' 1) (two V ha.v27 ha.v33 j) :=
  injected V 95 ha.v27 ha.v33 ha.v34 ha.v35 ha.v36 ha.v37 ha.v38 ha.v39 dr.v7 ha.v1 ha.c_8 1 K K' hk hk' (by rfl) (by decide) (by decide) (by decide) (by decide) (by decide) j

theorem stretch1 (V : Valuation τ sig (Elt F)) (j : S64x100000.Idx) : two V ha.v61 ha.v67 j = even (two V ha.v35 ha.v39 j) := by
  unfold even
  rw [← turned V 102 ha.v35 ha.v39 ha.v40 ha.v41 ha.v42 ha.v43 ha.v44 ha.v45 ha.v46 ha.c_9 ha.c_10 17 15 (by rfl) (by decide) (by decide) (by decide),
    ← turned V 111 ha.v40 ha.v46 ha.v47 ha.v48 ha.v49 ha.v50 ha.v51 ha.v52 ha.v53 ha.c_11 ha.c_12 29 3 (by rfl) (by decide) (by decide) (by decide),
    ← turned V 120 ha.v47 ha.v53 ha.v54 ha.v55 ha.v56 ha.v57 ha.v58 ha.v59 ha.v60 ha.c_13 ha.c_14 16 16 (by rfl) (by decide) (by decide) (by decide),
    ← turned V 129 ha.v54 ha.v60 ha.v61 ha.v62 ha.v63 ha.v64 ha.v65 ha.v66 ha.v67 ha.c_15 ha.c_16 24 8 (by rfl) (by decide) (by decide) (by decide)]

theorem key1 (V : Valuation τ sig (Elt F)) {K K' : BitVec 32} (hk : ∀ q, val V ha.v1 q = K) (hk' : ∀ q, val V dr.v5 q = K') (j : S64x100000.Idx) :
    two V ha.v69 ha.v73 j = inject K (IntOp.addi K' 2) (two V ha.v61 ha.v67 j) :=
  injected V 138 ha.v61 ha.v67 ha.v68 ha.v69 ha.v70 ha.v71 ha.v72 ha.v73 ha.v1 dr.v5 ha.c_17 2 K K' hk hk' (by rfl) (by decide) (by decide) (by decide) (by decide) (by decide) j

theorem stretch2 (V : Valuation τ sig (Elt F)) (j : S64x100000.Idx) : two V ha.v95 ha.v101 j = odd (two V ha.v69 ha.v73 j) := by
  unfold odd
  rw [← turned V 145 ha.v69 ha.v73 ha.v74 ha.v75 ha.v76 ha.v77 ha.v78 ha.v79 ha.v80 ha.c_18 ha.c_19 13 19 (by rfl) (by decide) (by decide) (by decide),
    ← turned V 154 ha.v74 ha.v80 ha.v81 ha.v82 ha.v83 ha.v84 ha.v85 ha.v86 ha.v87 ha.c_20 ha.c_21 15 17 (by rfl) (by decide) (by decide) (by decide),
    ← turned V 163 ha.v81 ha.v87 ha.v88 ha.v89 ha.v90 ha.v91 ha.v92 ha.v93 ha.v94 ha.c_22 ha.c_23 26 6 (by rfl) (by decide) (by decide) (by decide),
    ← turned V 172 ha.v88 ha.v94 ha.v95 ha.v96 ha.v97 ha.v98 ha.v99 ha.v100 ha.v101 ha.c_24 ha.c_25 6 26 (by rfl) (by decide) (by decide) (by decide)]

theorem key2 (V : Valuation τ sig (Elt F)) {K K' : BitVec 32} (hk : ∀ q, val V dr.v5 q = K) (hk' : ∀ q, val V dr.v7 q = K') (j : S64x100000.Idx) :
    two V ha.v103 ha.v107 j = inject K (IntOp.addi K' 3) (two V ha.v95 ha.v101 j) :=
  injected V 181 ha.v95 ha.v101 ha.v102 ha.v103 ha.v104 ha.v105 ha.v106 ha.v107 dr.v5 dr.v7 ha.c_26 3 K K' hk hk' (by rfl) (by decide) (by decide) (by decide) (by decide) (by decide) j

theorem stretch3 (V : Valuation τ sig (Elt F)) (j : S64x100000.Idx) : two V ha.v129 ha.v135 j = even (two V ha.v103 ha.v107 j) := by
  unfold even
  rw [← turned V 188 ha.v103 ha.v107 ha.v108 ha.v109 ha.v110 ha.v111 ha.v112 ha.v113 ha.v114 ha.c_27 ha.c_28 17 15 (by rfl) (by decide) (by decide) (by decide),
    ← turned V 197 ha.v108 ha.v114 ha.v115 ha.v116 ha.v117 ha.v118 ha.v119 ha.v120 ha.v121 ha.c_29 ha.c_30 29 3 (by rfl) (by decide) (by decide) (by decide),
    ← turned V 206 ha.v115 ha.v121 ha.v122 ha.v123 ha.v124 ha.v125 ha.v126 ha.v127 ha.v128 ha.c_31 ha.c_32 16 16 (by rfl) (by decide) (by decide) (by decide),
    ← turned V 215 ha.v122 ha.v128 ha.v129 ha.v130 ha.v131 ha.v132 ha.v133 ha.v134 ha.v135 ha.c_33 ha.c_34 24 8 (by rfl) (by decide) (by decide) (by decide)]

theorem key3 (V : Valuation τ sig (Elt F)) {K K' : BitVec 32} (hk : ∀ q, val V dr.v7 q = K) (hk' : ∀ q, val V ha.v1 q = K') (j : S64x100000.Idx) :
    two V ha.v137 ha.v141 j = inject K (IntOp.addi K' 4) (two V ha.v129 ha.v135 j) :=
  injected V 224 ha.v129 ha.v135 ha.v136 ha.v137 ha.v138 ha.v139 ha.v140 ha.v141 dr.v7 ha.v1 ha.c_35 4 K K' hk hk' (by rfl) (by decide) (by decide) (by decide) (by decide) (by decide) j

theorem stretch4 (V : Valuation τ sig (Elt F)) (j : S64x100000.Idx) : two V ha.v163 ha.v169 j = odd (two V ha.v137 ha.v141 j) := by
  unfold odd
  rw [← turned V 231 ha.v137 ha.v141 ha.v142 ha.v143 ha.v144 ha.v145 ha.v146 ha.v147 ha.v148 ha.c_36 ha.c_37 13 19 (by rfl) (by decide) (by decide) (by decide),
    ← turned V 240 ha.v142 ha.v148 ha.v149 ha.v150 ha.v151 ha.v152 ha.v153 ha.v154 ha.v155 ha.c_38 ha.c_39 15 17 (by rfl) (by decide) (by decide) (by decide),
    ← turned V 249 ha.v149 ha.v155 ha.v156 ha.v157 ha.v158 ha.v159 ha.v160 ha.v161 ha.v162 ha.c_40 ha.c_41 26 6 (by rfl) (by decide) (by decide) (by decide),
    ← turned V 258 ha.v156 ha.v162 ha.v163 ha.v164 ha.v165 ha.v166 ha.v167 ha.v168 ha.v169 ha.c_42 ha.c_43 6 26 (by rfl) (by decide) (by decide) (by decide)]

theorem key4 (V : Valuation τ sig (Elt F)) {K K' : BitVec 32} (hk : ∀ q, val V ha.v1 q = K) (hk' : ∀ q, val V dr.v5 q = K') (j : S64x100000.Idx) :
    two V ha.v171 ha.v175 j = inject K (IntOp.addi K' 5) (two V ha.v163 ha.v169 j) :=
  injected V 267 ha.v163 ha.v169 ha.v170 ha.v171 ha.v172 ha.v173 ha.v174 ha.v175 ha.v1 dr.v5 ha.c_44 5 K K' hk hk' (by rfl) (by decide) (by decide) (by decide) (by decide) (by decide) j

/-- The reference's two words at the end of the hash, from the counter `n` under the key (0, 42). -/
theorem ref_hashed (V : Valuation τ sig (Elt F)) (j : S64x100000.Idx) (n : BitVec 32) (h0 : ∀ q, val V dr.v5 q = 0) (h1 : ∀ q, val V dr.v7 q = 42)
    (h2 : ∀ q, val V ha.v1 q = 466689008) (hs : two V ha.v3 ha.v5 j = (0, IntOp.addi n 42)) :
    two V ha.v171 ha.v175 j = hashed n := by
  rw [key4 V h2 h0, stretch4, key3 V h1 h2, stretch3, key2 V h0 h1, stretch2, key1 V h2 h0, stretch1, key0 V h1 h2, stretch0, hs]
  rfl

end

end Cert.Proof.Plain

end
-- ==== Proof.RefRead.lean ====
/-
  What the reference's line leaves in its two result buffers, over the extended reals.
-/
module

public import proofs.«01_k».proof.Proof.RefHash
public import proofs.«01_k».proof.Proof.Spec

@[expose] public section

namespace Cert.Proof.Plain

open Cert.ReferenceIdeal Cert.ReferenceIdeal.Facts₀ Cert.ReferenceIdeal.Facts
open Idealize.ShloMosaic Idealize.SL.Sem Idealize.ShloMosaic.StableHlo
open Cert.Proof.Words

noncomputable section

/-! ## The key and the counter -/

section
variable {F : FTy → Type} [FloatOps F] (V : Valuation τ sig (Elt F))

/-- A value's buffer as launched, for one the line does not write. -/
abbrev buf (r : Ref sig .tc) {T : BufTy} (e : r.ty = T := by rfl) (d : r.space ≠ .host := by decide) (u : r.isScoped = false := by rfl) : TRef sig T := .of r e d u

theorem key_words : val V (buf main_v21 : TRef sig ⟨S2, .i32⟩) (ix1 0) = (0#32 : BitVec 32) ∧ val V (buf main_v21 : TRef sig ⟨S2, .i32⟩) (ix1 1) = (42#32 : BitVec 32) := by
  have c0 : val V (buf main_c : TRef sig One) = constantI S_ 32 42#32 := val_nullary V (i := 18) (by rfl) (by decide)
  have c2 : val V (buf main_c_2 : TRef sig One) = constantI S_ 32 32#32 := val_nullary V (i := 19) (by rfl) (by decide)
  have e15 : val V (buf main_v15 : TRef sig One) = Host.shrui _ _ :=
    val_binary V (i := 20) (a := buf main_c) (b := buf main_c_2) (by rfl) (by decide) (by decide) (by decide)
  have e16 : val V (buf main_v16 : TRef sig One) = id _ := val_unary V (i := 21) (x := buf main_v15) (by rfl) (by decide) (by decide)
  have e17 : val V (buf main_v17 : TRef sig ⟨S1, .i32⟩) = broadcastInDim S1 ![] bcast_S_S1 _ :=
    val_unary V (i := 22) (x := (buf main_v16 : TRef sig One)) (by rfl) (by decide) (by decide)
  have c3 : val V (buf main_c_3 : TRef sig One) = constantI S_ 32 4294967295#32 := val_nullary V (i := 23) (by rfl) (by decide)
  have e18 : val V (buf main_v18 : TRef sig One) = andi _ _ :=
    val_binary V (i := 24) (a := buf main_c) (b := buf main_c_3) (by rfl) (by decide) (by decide) (by decide)
  have e19 : val V (buf main_v19 : TRef sig One) = id _ := val_unary V (i := 25) (x := buf main_v18) (by rfl) (by decide) (by decide)
  have e20 : val V (buf main_v20 : TRef sig ⟨S1, .i32⟩) = broadcastInDim S1 ![] bcast_S_S1 _ :=
    val_unary V (i := 26) (x := (buf main_v19 : TRef sig One)) (by rfl) (by decide) (by decide)
  have e21 : val V (buf main_v21 : TRef sig ⟨S2, .i32⟩) = concatenate S2 0 [⟨S1, val V (buf main_v17 : TRef sig ⟨S1, .i32⟩)⟩,
      ⟨S1, val V (buf main_v20 : TRef sig ⟨S1, .i32⟩)⟩] concatenates_S1_S1_S2_d0 :=
    val_binary V (i := 27) (a := (buf main_v17 : TRef sig ⟨S1, .i32⟩)) (b := (buf main_v20 : TRef sig ⟨S1, .i32⟩)) (y := (buf main_v21 : TRef sig ⟨S2, .i32⟩))
      (f := fun a b => concatenate S2 0 [⟨S1, a⟩, ⟨S1, b⟩] concatenates_S1_S1_S2_d0) (by rfl) (by decide) (by decide) (by decide)
  rw [e21, e20, e19, e18, c3, e17, e16, e15, c2, c0]
  exact ⟨rfl, (show _ = IntOp.andi 42#32 4294967295#32 from rfl).trans (by decide)⟩

/-- The only element of a one-element vector, as a scalar. -/
theorem one_cast {α : Type} (x : S1.Idx → α) (q : S_.Idx) : shapeCast S_ x shapeCasts_S1_S_ q = x (ix1 0) := by
  have only : ∀ p : S1.Idx, p = ix1 0 := fun p => by
    funext a
    match a with
    | ⟨0, _⟩ => exact Fin.ext (Nat.lt_one_iff.mp (p 0).isLt)
  exact congrArg x (only _)

theorem key_first (q : S_.Idx) : val V dr.v5 q = (0#32 : BitVec 32) := by
  have e4 : val V dr.v4 = extractStridedSlice S1 ![0] (val V (buf main_v21 : TRef sig ⟨S2, .i32⟩)) slices_S2_S1_0 :=
    val_unary V (i := 34) (x := (buf main_v21 : TRef sig ⟨S2, .i32⟩)) (y := dr.v4) (f := (extractStridedSlice S1 ![0] · slices_S2_S1_0)) (by rfl) (by decide) (by decide)
  have e5 : val V dr.v5 = shapeCast S_ (val V dr.v4) shapeCasts_S1_S_ := by
    unfold val
    rw [stays V (i := 35) (op := TRef.reshape dr.v4 dr.v5 rfl shapeCasts_S1_S_) (by rfl) (by decide), reshape_result', settled V (by decide)]
    rfl
  rw [e5, e4, ← (key_words V).1]
  exact one_cast _ q

theorem key_second (q : S_.Idx) : val V dr.v7 q = (42#32 : BitVec 32) := by
  have e6 : val V dr.v6 = extractStridedSlice S1 ![1] (val V (buf main_v21 : TRef sig ⟨S2, .i32⟩)) slices_S2_S1_1 :=
    val_unary V (i := 36) (x := (buf main_v21 : TRef sig ⟨S2, .i32⟩)) (y := dr.v6) (f := (extractStridedSlice S1 ![1] · slices_S2_S1_1)) (by rfl) (by decide) (by decide)
  have e7 : val V dr.v7 = shapeCast S_ (val V dr.v6) shapeCasts_S1_S_ := by
    unfold val
    rw [stays V (i := 37) (op := TRef.reshape dr.v6 dr.v7 rfl shapeCasts_S1_S_) (by rfl) (by decide), reshape_result', settled V (by decide)]
    rfl
  rw [e7, e6, ← (key_words V).2]
  exact one_cast _ q

/-- A block of double words. -/
abbrev Wide2 : BufTy := ⟨S64x100000, .i64⟩

theorem count_lo (r : Fin 64) (v : Fin 100000) : val V dr.v17 (ix2 r v) = Spec.counter r v.val ∧ val V dr.v18 (ix2 r v) = (0#32 : BitVec 32) := by
  have e8 : val V dr.v8 = iotaInDim S64x100000 64 0 := val_nullary V (i := 38) (by rfl) (by decide)
  have e9 : val V dr.v9 = iotaInDim S64x100000 64 1 := val_nullary V (i := 39) (by rfl) (by decide)
  have c : val V dr.c = constantI S_ 64 100000#64 := val_nullary V (i := 40) (by rfl) (by decide)
  have e10 : val V dr.v10 = broadcastInDim S64x100000 ![] bcast_S_S64x100000 _ := val_unary V (i := 41) (x := dr.c) (by rfl) (by decide) (by decide)
  have e11 : val V dr.v11 = muli _ _ := val_binary V (i := 42) (a := dr.v10) (b := dr.v8) (by rfl) (by decide) (by decide) (by decide)
  have c0 : val V dr.c_0 = constantI S_ 64 1#64 := val_nullary V (i := 43) (by rfl) (by decide)
  have e12 : val V dr.v12 = broadcastInDim S64x100000 ![] bcast_S_S64x100000 _ := val_unary V (i := 44) (x := dr.c_0) (by rfl) (by decide) (by decide)
  have e13 : val V dr.v13 = muli _ _ := val_binary V (i := 45) (a := dr.v12) (b := dr.v9) (by rfl) (by decide) (by decide) (by decide)
  have e14 : val V dr.v14 = addi _ _ := val_binary V (i := 46) (a := dr.v11) (b := dr.v13) (by rfl) (by decide) (by decide) (by decide)
  have c1 : val V dr.c_1 = constantI S_ 64 32#64 := val_nullary V (i := 47) (by rfl) (by decide)
  have e15 : val V dr.v15 = broadcastInDim S64x100000 ![] bcast_S_S64x100000 _ := val_unary V (i := 48) (x := dr.c_1) (by rfl) (by decide) (by decide)
  have e16 : val V dr.v16 = Host.shrui _ _ := val_binary V (i := 49) (a := dr.v14) (b := dr.v15) (by rfl) (by decide) (by decide) (by decide)
  have e17 : val V dr.v17 = trunci 32 _ natLt_32_64 :=
    val_unary V (i := 50) (x := dr.v14) (y := dr.v17) (f := (trunci 32 · natLt_32_64)) (by rfl) (by decide) (by decide)
  have e18 : val V dr.v18 = trunci 32 _ natLt_32_64 :=
    val_unary V (i := 51) (x := dr.v16) (y := dr.v18) (f := (trunci 32 · natLt_32_64)) (by rfl) (by decide) (by decide)
  have hr := r.2
  have hv := v.2
  have hn : val V dr.v14 (ix2 r v) = BitVec.ofNat 64 (r.val * 100000 + v.val) := by
    rw [e14, e13, e12, c0, e11, e10, c, e9, e8]
    refine (show _ = BitVec.add (BitVec.mul 100000#64 (BitVec.ofNat 64 r.val)) (BitVec.mul 1#64 (BitVec.ofNat 64 v.val)) from rfl).trans ?_
    apply BitVec.eq_of_toNat_eq
    show ((100000 * (r.val % 2 ^ 64)) % 2 ^ 64 + (1 * (v.val % 2 ^ 64)) % 2 ^ 64) % 2 ^ 64 = (r.val * 100000 + v.val) % 2 ^ 64
    omega
  constructor
  · rw [e17]
    show (val V dr.v14 (ix2 r v) : BitVec 64).setWidth 32 = _
    rw [hn]
    apply BitVec.eq_of_toNat_eq
    show ((r.val * 100000 + v.val) % 2 ^ 64) % 2 ^ 32 = (r.val * 100000 + v.val) % 2 ^ 32
    omega
  · rw [e18, e16, e15, c1]
    show (IntOp.shrui .host (val V dr.v14 (ix2 r v) : BitVec 64) 32#64).setWidth 32 = _
    rw [hn]
    have : IntOp.shrui .host (BitVec.ofNat 64 (r.val * 100000 + v.val)) 32#64 = BitVec.ofNat 64 (r.val * 100000 + v.val) >>> 32 := rfl
    rw [this]
    apply BitVec.eq_of_toNat_eq
    rw [BitVec.toNat_setWidth, BitVec.toNat_ushiftRight, BitVec.toNat_ofNat, Nat.shiftRight_eq_div_pow]
    rw [Nat.mod_eq_of_lt (show r.val * 100000 + v.val < 2 ^ 64 by omega), Nat.div_eq_of_lt (show r.val * 100000 + v.val < 2 ^ 32 by omega)]
    rfl

/-- The two words the hash of a row and a column ends in. -/
theorem ref_words (r : Fin 64) (v : Fin 100000) : two V ha.v171 ha.v175 (ix2 r v) = hashed (Spec.counter r v.val) := by
  have e0 : val V ha.v0 = xori _ _ := val_binary V (i := 52) (a := dr.v5) (b := dr.v7) (by rfl) (by decide) (by decide) (by decide)
  have c : val V ha.c = constantI S_ 32 466688986#32 := val_nullary V (i := 53) (by rfl) (by decide)
  have e1 : val V ha.v1 = xori _ _ := val_binary V (i := 54) (a := ha.v0) (b := ha.c) (by rfl) (by decide) (by decide) (by decide)
  have e2 : val V ha.v2 = spread _ := val_unary V (i := 55) (x := dr.v5) (by rfl) (by decide) (by decide)
  have e3 : val V ha.v3 = addi _ _ := val_binary V (i := 56) (a := dr.v18) (b := ha.v2) (by rfl) (by decide) (by decide) (by decide)
  have e4 : val V ha.v4 = spread _ := val_unary V (i := 57) (x := dr.v7) (by rfl) (by decide) (by decide)
  have e5 : val V ha.v5 = addi _ _ := val_binary V (i := 58) (a := dr.v17) (b := ha.v4) (by rfl) (by decide) (by decide) (by decide)
  refine ref_hashed V _ _ (key_first V) (key_second V) (fun q => ?_) (Prod.ext ?_ ?_)
  · rw [e1, e0, c]
    show IntOp.xori (IntOp.xori (val V dr.v5 q) (val V dr.v7 q)) 466688986#32 = _
    rw [key_first, key_second]; rfl
  · show val V ha.v3 (ix2 r v) = _
    rw [e3, e2]
    show IntOp.addi (val V dr.v18 (ix2 r v)) (val V dr.v5 _) = _
    rw [key_first, (count_lo V r v).2]; rfl
  · show val V ha.v5 (ix2 r v) = _
    rw [e5, e4]
    show IntOp.addi (val V dr.v17 (ix2 r v)) (val V dr.v7 _) = _
    rw [key_second, (count_lo V r v).1]; rfl

end

end

end Cert.Proof.Plain

end
-- ==== Proof.RefOps.lean ====
/-
  The reference's two results over the extended reals: the logits, and the first greatest score of each row.
-/
module

public import proofs.«01_k».proof.Proof.RefRead

@[expose] public section

namespace Cert.Proof.Plain

open Cert.ReferenceIdeal Cert.ReferenceIdeal.Facts₀ Cert.ReferenceIdeal.Facts
open Idealize.ShloMosaic Idealize.SL.Sem Idealize.ShloMosaic.StableHlo
open Cert.Proof.Words

noncomputable section

variable (V : Valuation τ sig (Elt Ideal))

/-- A matrix of numbers, a vector of them over the rows, and one of them. -/
abbrev Mat : BufTy := ⟨S64x100000, .f32⟩
abbrev Num : BufTy := ⟨S_, .f32⟩

/-- The three arguments. -/
abbrev argX : S64x1024.Idx → EReal := val V (buf main_arg0 : TRef sig ⟨S64x1024, .f32⟩)
abbrev argW : S1024x100000.Idx → EReal := val V (buf main_arg1 : TRef sig ⟨S1024x100000, .f32⟩)
abbrev argB : S100000.Idx → EReal := val V (buf main_arg2 : TRef sig ⟨S100000, .f32⟩)

/-- The numbers 0 and 1 as the program spells them. -/
theorem zero_num : Ideal.ofBits .f32 0x00000000#32 = (0 : EReal) := Ideal.ofBits_zero_f32
theorem one_num : Ideal.ofBits .f32 0x3F800000#32 = (1 : EReal) := Ideal.ofBits_one_f32

/-- The operations of the draw at an element, on any blocks. -/
theorem word_at (w : S64x100000.Idx → BitVec 32) (j : S64x100000.Idx) :
    ori (Host.shrui w (broadcastInDim S64x100000 ![] bcast_S_S64x100000 (constantI S_ 32 9#32)))
      (broadcastInDim S64x100000 ![] bcast_S_S64x100000 (constantI S_ 32 1065353216#32)) j = IntOp.ori (IntOp.shrui .vector (w j) 9) 1065353216 :=
  congrArg (IntOp.ori · 1065353216#32) (shrui_unit .host .vector (w j) 9#32)

theorem minus_one_at (w : S64x100000.Idx → BitVec 32) (j : S64x100000.Idx) :
    subf (F := Ideal) (φ := .f32) (bitcastToFloat .f32 w) (broadcastInDim S64x100000 ![] bcast_S_S64x100000 (constant (F := Ideal) S_ .f32 0x3F800000#32)) j
      = Ideal.ofBits .f32 (w j) - Ideal.ofBits .f32 0x3F800000#32 := rfl

theorem scaled_at (x : S64x100000.Idx → EReal) (a b : S1x1.Idx → EReal) (ha : ∀ q, a q = 0) (hb : ∀ q, b q = 1) (j : S64x100000.Idx) :
    maximumf (F := Ideal) (φ := .f32) (broadcastInDim S64x100000 ![0, 1] bcast_S1x1_S64x100000_0_1 a)
      (addf (F := Ideal) (φ := .f32) (mulf (F := Ideal) (φ := .f32) x (broadcastInDim S64x100000 ![0, 1] bcast_S1x1_S64x100000_0_1 b))
        (broadcastInDim S64x100000 ![0, 1] bcast_S1x1_S64x100000_0_1 a)) j = max 0 (x j) := by
  obtain rfl : a = fun _ => 0 := funext ha
  obtain rfl : b = fun _ => 1 := funext hb
  refine (show _ = max (0 : EReal) (x j * 1 + 0) from rfl).trans ?_
  rw [mul_one, add_zero]

theorem one_at (x y : S1x1.Idx → EReal) (q : S1x1.Idx) : subf (F := Ideal) (φ := .f32) x y q = x q - y q := rfl

theorem shifted_at (x : S64x100000.Idx → EReal) (j : S64x100000.Idx) :
    maximumf (F := Ideal) (φ := .f32) (broadcastInDim S64x100000 ![] bcast_S_S64x100000 (constant (F := Ideal) S_ .f32 0x00800000#32))
      (addf (F := Ideal) (φ := .f32) (mulf (F := Ideal) (φ := .f32) x (broadcastInDim S64x100000 ![] bcast_S_S64x100000 (constant (F := Ideal) S_ .f32 0x3F800000#32)))
        (broadcastInDim S64x100000 ![] bcast_S_S64x100000 (constant (F := Ideal) S_ .f32 0x00800000#32))) j
      = max (Ideal.ofBits .f32 0x00800000#32) (x j * Ideal.ofBits .f32 0x3F800000#32 + Ideal.ofBits .f32 0x00800000#32) := rfl

theorem logs_at (x : S64x100000.Idx → EReal) (j : S64x100000.Idx) :
    Host.negf (F := Ideal) (φ := .f32) (Host.log (F := Ideal) (φ := .f32) (Host.negf (F := Ideal) (φ := .f32) (Host.log (F := Ideal) (φ := .f32) x))) j
      = -Ideal.log (-Ideal.log (x j)) := rfl

end

end Cert.Proof.Plain

end
-- ==== Proof.RefOut.lean ====
/-
  The reference's two results over the extended reals: the logits, and the first greatest score of each row.
-/
module

public import proofs.«01_k».proof.Proof.RefOps

@[expose] public section

namespace Cert.Proof.Plain

open Cert.ReferenceIdeal Cert.ReferenceIdeal.Facts₀ Cert.ReferenceIdeal.Facts
open Idealize.ShloMosaic Idealize.SL.Sem Idealize.ShloMosaic.StableHlo
open Cert.Proof.Words

noncomputable section

variable (V : Valuation τ sig (Elt Ideal))

theorem unit_read (r : Fin 64) (v : Fin 100000) : val V dr.v27 (ix2 r v) = Spec.unit (bits (Spec.counter r v.val)) := by
  have e20 := val_binary V (y := dr.v20) (f := xori) (i := 274) (a := ha.v171) (b := ha.v175) (by rfl) (by decide) (by decide) (by decide)
  have c2 : val V dr.c_2 = constantI S_ 32 9#32 := val_nullary V (i := 275) (by rfl) (by decide)
  have e21 := val_unary V (y := dr.v21) (f := spread) (i := 276) (x := dr.c_2) (by rfl) (by decide) (by decide)
  have e22 := val_binary V (y := dr.v22) (f := Host.shrui) (i := 277) (a := dr.v20) (b := dr.v21) (by rfl) (by decide) (by decide) (by decide)
  have c3 : val V dr.c_3 = constantI S_ 32 1065353216#32 := val_nullary V (i := 278) (by rfl) (by decide)
  have e23 := val_unary V (y := dr.v23) (f := spread) (i := 279) (x := dr.c_3) (by rfl) (by decide) (by decide)
  have e24 := val_binary V (y := dr.v24) (f := ori) (i := 280) (a := dr.v22) (b := dr.v23) (by rfl) (by decide) (by decide) (by decide)
  have e25 := val_unary V (y := dr.v25) (f := bitcastToFloat (F := Ideal) .f32) (i := 281) (x := dr.v24) (by rfl) (by decide) (by decide)
  have c : val V dr.cst = constant (F := Ideal) S_ .f32 0x3F800000#32 := val_nullary V (i := 282) (by rfl) (by decide)
  have e26 := val_unary V (y := dr.v26) (f := broadcastInDim S64x100000 ![] bcast_S_S64x100000) (i := 283) (x := dr.cst) (by rfl) (by decide) (by decide)
  have e27 := val_binary V (y := dr.v27) (f := subf (F := Ideal) (φ := .f32)) (i := 284) (a := dr.v25) (b := dr.v26) (by rfl) (by decide) (by decide) (by decide)
  have h20 : val V dr.v20 (ix2 r v) = bits (Spec.counter r v.val) := by
    have w := ref_words V r v
    rw [e20]
    exact congrArg₂ IntOp.xori (congrArg Prod.fst w) (congrArg Prod.snd w)
  have h24 : val V dr.v24 (ix2 r v) = IntOp.ori (IntOp.shrui .vector (bits (Spec.counter r v.val)) 9) 1065353216 := by
    rw [e24, e23, c3, e22, e21, c2]
    refine (word_at (val V dr.v20) (ix2 r v)).trans ?_
    rw [h20]
  rw [e27, e25, e26, c]
  refine (minus_one_at (val V dr.v24) (ix2 r v)).trans ?_
  rw [h24, one_num, Spec.unit]

theorem uniform_read (r : Fin 64) (v : Fin 100000) : val V dr.v34 (ix2 r v) = max (0 : EReal) (Spec.unit (bits (Spec.counter r v.val))) := by
  have c4 : val V (buf main_cst_4 : TRef sig Num) = constant (F := Ideal) S_ .f32 0x00000000#32 := val_nullary V (i := 28) (by rfl) (by decide)
  have c5 : val V (buf main_cst_5 : TRef sig Num) = constant (F := Ideal) S_ .f32 0x3F800000#32 := val_nullary V (i := 29) (by rfl) (by decide)
  have e0 := val_unary V (y := dr.v0) (f := id) (i := 30) (x := buf main_cst_4) (by rfl) (by decide) (by decide)
  have e1 := val_unary V (y := dr.v1) (f := id) (i := 31) (x := buf main_cst_5) (by rfl) (by decide) (by decide)
  have e2 := val_unary V (y := dr.v2) (f := broadcastInDim S1x1 ![] bcast_S_S1x1) (i := 32) (x := dr.v0) (by rfl) (by decide) (by decide)
  have e3 := val_unary V (y := dr.v3) (f := broadcastInDim S1x1 ![] bcast_S_S1x1) (i := 33) (x := dr.v1) (by rfl) (by decide) (by decide)
  have e28 := val_binary V (y := dr.v28) (f := subf (F := Ideal) (φ := .f32)) (i := 285) (a := dr.v3) (b := dr.v2) (by rfl) (by decide) (by decide) (by decide)
  have e29 := val_unary V (y := dr.v29) (f := broadcastInDim S64x100000 ![0, 1] bcast_S1x1_S64x100000_0_1) (i := 286) (x := dr.v28) (by rfl) (by decide) (by decide)
  have e30 := val_binary V (y := dr.v30) (f := mulf (F := Ideal) (φ := .f32)) (i := 287) (a := dr.v27) (b := dr.v29) (by rfl) (by decide) (by decide) (by decide)
  have e31 := val_unary V (y := dr.v31) (f := broadcastInDim S64x100000 ![0, 1] bcast_S1x1_S64x100000_0_1) (i := 288) (x := dr.v2) (by rfl) (by decide) (by decide)
  have e32 := val_binary V (y := dr.v32) (f := addf (F := Ideal) (φ := .f32)) (i := 289) (a := dr.v30) (b := dr.v31) (by rfl) (by decide) (by decide) (by decide)
  have e33 := val_unary V (y := dr.v33) (f := broadcastInDim S64x100000 ![0, 1] bcast_S1x1_S64x100000_0_1) (i := 290) (x := dr.v2) (by rfl) (by decide) (by decide)
  have e34 := val_binary V (y := dr.v34) (f := maximumf (F := Ideal) (φ := .f32)) (i := 291) (a := dr.v33) (b := dr.v32) (by rfl) (by decide) (by decide) (by decide)
  have h2 : ∀ q, val V dr.v2 q = (0 : EReal) := fun q => by rw [e2, e0, c4]; exact zero_num
  have h28 : ∀ q, val V dr.v28 q = (1 : EReal) := fun q => by
    have h3 : ∀ q, val V dr.v3 q = (1 : EReal) := fun q => by rw [e3, e1, c5]; exact one_num
    rw [e28]
    refine (one_at (val V dr.v3) (val V dr.v2) q).trans ?_
    rw [h2, h3, sub_zero]
  rw [e34, e33, e32, e31, e30, e29]
  refine (scaled_at (val V dr.v27) (val V dr.v2) (val V dr.v28) h2 h28 (ix2 r v)).trans ?_
  rw [unit_read]

/-- The noise the reference adds. -/
theorem noise_read (r : Fin 64) (v : Fin 100000) : val V (buf main_v32 : TRef sig Mat) (ix2 r v) = Spec.gumbel r v.val := by
  have c6 : val V (buf main_cst_6 : TRef sig Num) = constant (F := Ideal) S_ .f32 0x3F800000#32 := val_nullary V (i := 292) (by rfl) (by decide)
  have e23 := val_unary V (y := (buf main_v23 : TRef sig Mat)) (f := broadcastInDim S64x100000 ![] bcast_S_S64x100000) (i := 293) (x := (buf main_cst_6 : TRef sig Num)) (by rfl) (by decide) (by decide)
  have e24 := val_binary V (y := (buf main_v24 : TRef sig Mat)) (f := mulf (F := Ideal) (φ := .f32)) (i := 294) (a := dr.v34) (b := (buf main_v23 : TRef sig Mat)) (by rfl) (by decide) (by decide) (by decide)
  have c7 : val V (buf main_cst_7 : TRef sig Num) = constant (F := Ideal) S_ .f32 0x00800000#32 := val_nullary V (i := 295) (by rfl) (by decide)
  have e25 := val_unary V (y := (buf main_v25 : TRef sig Mat)) (f := broadcastInDim S64x100000 ![] bcast_S_S64x100000) (i := 296) (x := (buf main_cst_7 : TRef sig Num)) (by rfl) (by decide) (by decide)
  have e26 := val_binary V (y := (buf main_v26 : TRef sig Mat)) (f := addf (F := Ideal) (φ := .f32)) (i := 297) (a := (buf main_v24 : TRef sig Mat)) (b := (buf main_v25 : TRef sig Mat)) (by rfl) (by decide) (by decide) (by decide)
  have c8 : val V (buf main_cst_8 : TRef sig Num) = constant (F := Ideal) S_ .f32 0x00800000#32 := val_nullary V (i := 298) (by rfl) (by decide)
  have e27 := val_unary V (y := (buf main_v27 : TRef sig Mat)) (f := broadcastInDim S64x100000 ![] bcast_S_S64x100000) (i := 299) (x := (buf main_cst_8 : TRef sig Num)) (by rfl) (by decide) (by decide)
  have e28 := val_binary V (y := (buf main_v28 : TRef sig Mat)) (f := maximumf (F := Ideal) (φ := .f32)) (i := 300) (a := (buf main_v27 : TRef sig Mat)) (b := (buf main_v26 : TRef sig Mat)) (by rfl) (by decide) (by decide) (by decide)
  have e29 := val_unary V (y := (buf main_v29 : TRef sig Mat)) (f := Host.log (F := Ideal) (φ := .f32)) (i := 301) (x := (buf main_v28 : TRef sig Mat)) (by rfl) (by decide) (by decide)
  have e30 := val_unary V (y := (buf main_v30 : TRef sig Mat)) (f := Host.negf (F := Ideal) (φ := .f32)) (i := 302) (x := (buf main_v29 : TRef sig Mat)) (by rfl) (by decide) (by decide)
  have e31 := val_unary V (y := (buf main_v31 : TRef sig Mat)) (f := Host.log (F := Ideal) (φ := .f32)) (i := 303) (x := (buf main_v30 : TRef sig Mat)) (by rfl) (by decide) (by decide)
  have e32 := val_unary V (y := (buf main_v32 : TRef sig Mat)) (f := Host.negf (F := Ideal) (φ := .f32)) (i := 304) (x := (buf main_v31 : TRef sig Mat)) (by rfl) (by decide) (by decide)
  have h28 : val V (buf main_v28 : TRef sig Mat) (ix2 r v) = max (Spec.unit (bits (Spec.counter r v.val)) + Spec.tiny) Spec.tiny := by
    rw [e28, e27, c8, e26, e25, c7, e24, e23, c6]
    refine (shifted_at (val V dr.v34) (ix2 r v)).trans ?_
    rw [one_num, mul_one, uniform_read, ← Spec.tiny, Spec.cut_tiny]
  rw [e32, e31, e30, e29]
  refine (logs_at (val V (buf main_v28 : TRef sig Mat)) (ix2 r v)).trans ?_
  rw [h28, Spec.gumbel, Spec.noise]

/-- The logits. -/
theorem logit_read (r : Fin 64) (v : Fin 100000) :
    val V (buf main_v3 : TRef sig Mat) (ix2 r v) = Spec.logit (argX V) (argW V) (argB V) r v := by
  have e0 := val_binary V  (i := 0) (a := (buf main_arg0 : TRef sig ⟨S64x1024, .f32⟩)) (b := (buf main_arg1 : TRef sig ⟨S1024x100000, .f32⟩)) (y := (buf main_v0 : TRef sig Mat))
      (f := fun l r => Host.dotGeneral (F := Ideal) (φ₁ := .f32) (φ₂ := .f32) dot_S64x1024_S1024x100000_S64x100000_1_0_0_1_n_n none l r) (by rfl) (by decide) (by decide) (by decide)
  have e1 := val_unary V (y := (buf main_v1 : TRef sig ⟨S1x100000, .f32⟩)) (f := broadcastInDim S1x100000 ![1] bcast_S100000_S1x100000_1) (i := 1) (x := (buf main_arg2 : TRef sig ⟨S100000, .f32⟩)) (by rfl) (by decide) (by decide)
  have e2 := val_unary V (y := (buf main_v2 : TRef sig Mat)) (f := broadcastInDim S64x100000 ![0, 1] bcast_S1x100000_S64x100000_0_1) (i := 2) (x := (buf main_v1 : TRef sig ⟨S1x100000, .f32⟩)) (by rfl) (by decide) (by decide)
  have e3 := val_binary V (y := (buf main_v3 : TRef sig Mat)) (f := addf (F := Ideal) (φ := .f32)) (i := 3) (a := (buf main_v0 : TRef sig Mat)) (b := (buf main_v2 : TRef sig Mat)) (by rfl) (by decide) (by decide) (by decide)
  rw [e3, e2, e1, e0]
  unfold Spec.logit
  pointwise

end

end Cert.Proof.Plain

end
-- ==== Proof.Soft.lean ====
/-
  The reference's softmax and its logarithm, on any matrix of real numbers: the number itself, shifted by one real number
  to the row. And its choice: the first greatest score of each row.
-/
module

public import proofs.«01_k».proof.Proof.Gen.ReferenceIdeal
public import proofs.«01_k».proof.Proof.Pick
public import Idealize.ShloMosaic.Lib.Pointwise

@[expose] public section

namespace Cert.Proof.Soft

open Cert.ReferenceIdeal Cert.ReferenceIdeal.Facts₀ Cert.ReferenceIdeal.Facts
open Idealize.ShloMosaic
open Cert.Proof.Pick

noncomputable section

theorem neg_inf_num : Ideal.ofBits .f32 0xFF800000#32 = (⊥ : EReal) := by simp [Ideal.ofBits, Ideal.ieee]

/-! ## On numbers -/

theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The logarithm of a number's share in a row: the number, less the greatest and the logarithm of the total. -/
theorem log_share {n : ℕ} (hn : 0 < n) (l : Fin n → ℝ) (m : ℝ) (v : Fin n) :
    Ideal.log (Ideal.div (Ideal.exp ((l v : EReal) - (m : EReal))) (0 + ∑ k : Fin n, Ideal.exp ((l k : EReal) - (m : EReal))))
      = (l v : EReal) + ((-m - Real.log (∑ k : Fin n, Real.exp (l k - m)) : ℝ) : EReal) := by
  have he : ∀ k, Ideal.exp ((l k : EReal) - (m : EReal)) = (Real.exp (l k - m) : EReal) := fun k => by
    rw [← EReal.coe_sub, Ideal.exp_coe]
  have hS : 0 < ∑ k : Fin n, Real.exp (l k - m) :=
    Finset.sum_pos (fun k _ => Real.exp_pos _) ⟨⟨0, hn⟩, Finset.mem_univ _⟩
  simp only [he]
  rw [sum_real, zero_add, Ideal.div_coe hS.ne', ← EReal.coe_mul, Ideal.log_coe, if_neg (not_le.2 (mul_pos (Real.exp_pos _) (one_div_pos.2 hS))),
    one_div, ← div_eq_mul_inv, Real.log_div (Real.exp_pos _).ne' hS.ne', Real.log_exp, ← EReal.coe_add]
  congr 1; ring

/-! ## On the program's blocks -/

theorem fold_at (x : S64x100000.Idx → EReal) (r : Fin 64) :
    Host.reduce (FloatOps.maximumf (F := Ideal) (φ := .f32)) x (constant (F := Ideal) S_ .f32 0xFF800000#32) reducesTo_S64x100000_S64_d1 h_S_ (ix1 r)
      = Finset.univ.fold max (Ideal.ofBits .f32 0xFF800000#32) fun k : Fin 100000 => x (ix2 r k) := by
  pointwise

theorem floor_at (y : S64.Idx → EReal) (r : Fin 64) :
    maximumf (F := Ideal) (φ := .f32) (broadcastInDim S64 ![] bcast_S_S64 (constant (F := Ideal) S_ .f32 0xFF800000#32)) y (ix1 r) = y (ix1 r) := by
  have h : maximumf (F := Ideal) (φ := .f32) (broadcastInDim S64 ![] bcast_S_S64 (constant (F := Ideal) S_ .f32 0xFF800000#32)) y (ix1 r)
      = max (Ideal.ofBits .f32 0xFF800000#32) (y (ix1 r)) := rfl
  rw [h, neg_inf_num, max_eq_right bot_le]

theorem less_at (x : S64x100000.Idx → EReal) (m : S64.Idx → EReal) (r : Fin 64) (v : Fin 100000) :
    Host.exp (F := Ideal) (φ := .f32) (subf (F := Ideal) (φ := .f32) x (broadcastInDim S64x100000 ![0, 1] bcast_S64x1_S64x100000_0_1 (broadcastInDim S64x1 ![0] bcast_S64_S64x1_0 m))) (ix2 r v)
      = Ideal.exp (x (ix2 r v) - m (ix1 r)) := by
  pointwise

theorem total_at (y : S64x100000.Idx → EReal) (r : Fin 64) :
    Host.reduceAdd (F := Ideal) (φ := .f32) y (constant (F := Ideal) S_ .f32 0x00000000#32) reducesTo_S64x100000_S64_d1 h_S_ (ix1 r)
      = 0 + ∑ k : Fin 100000, y (ix2 r k) := by
  pointwise

theorem share_at (y : S64x100000.Idx → EReal) (t : S64.Idx → EReal) (r : Fin 64) (v : Fin 100000) :
    Host.log (F := Ideal) (φ := .f32) (Host.divf (F := Ideal) (φ := .f32) y (broadcastInDim S64x100000 ![0, 1] bcast_S64x1_S64x100000_0_1 (broadcastInDim S64x1 ![0] bcast_S64_S64x1_0 t))) (ix2 r v)
      = Ideal.log (Ideal.div (y (ix2 r v)) (t (ix1 r))) := by
  pointwise

/-- A row's pairs of number and column: what the choice folds over. -/
theorem row_pairs (x : S64x100000.Idx → EReal) (r : Fin 64) (q : EReal × BitVec 32) :
    q ∈ Host.argReduceFiber x (iotaInDim S64x100000 32 1) reducesTo_S64x100000_S64_d1 (ix1 r)
      ↔ ∃ v : Fin 100000, q = (x (ix2 r v), BitVec.ofNat 32 v.val) := by
  have hr : S64x100000.Reduces [1] S64 := by decide
  unfold Host.argReduceFiber
  rw [List.mem_map]
  constructor
  · rintro ⟨n, hn, rfl⟩
    have hd : reducesTo_S64x100000_S64_d1.drop (S64x100000.rowMajor.symm n) = ix1 r := of_decide_eq_true (List.mem_filter.mp hn).2
    generalize S64x100000.rowMajor.symm n = p at hd ⊢
    refine ⟨p 1, Prod.ext (congrArg x ?_) rfl⟩
    have h0 : p 0 = r := by
      have := congrFun hd 0
      exact Fin.ext (congrArg Fin.val this)
    funext a
    match a with
    | ⟨0, _⟩ => exact h0
    | ⟨1, _⟩ => rfl
  · rintro ⟨v, rfl⟩
    refine ⟨S64x100000.rowMajor (ix2 r v), List.mem_filter.mpr ⟨List.mem_finRange _, decide_eq_true ?_⟩, ?_⟩
    · rw [Equiv.symm_apply_apply]
      funext a
      match a with
      | ⟨0, _⟩ => rfl
    · rw [Equiv.symm_apply_apply]; rfl

/-- The choice, as the program writes it. -/
theorem choice_at (x : S64x100000.Idx → EReal) (r : Fin 64) (k : Fin 100000) (hk : First (fun v => x (ix2 r v)) k) :
    (Host.argReduce (F := Ideal) (φ := .f32) reducer_argmax_f32_i32 x (iotaInDim S64x100000 32 1) (constant (F := Ideal) S_ .f32 0xFF800000#32)
      (constantI S_ 32 0#32) reducesTo_S64x100000_S64_d1 h_S_ (ix1 r)).2 = BitVec.ofNat 32 k.val := by
  rw [Ideal.argReduce_eq_reduce2, Host.reduce2_eq_foldl_fiber]
  have e : (constant (F := Ideal) S_ .f32 0xFF800000#32 (Shape.Idx.first h_S_), constantI S_ 32 0#32 (Shape.Idx.first h_S_)) = ((⊥ : EReal), 0#32) :=
    Prod.ext neg_inf_num rfl
  have hn : 100000 ≤ 2 ^ 31 := by norm_num
  have key : ∀ p : EReal × BitVec 32, p = (⊥, 0#32) →
      (List.foldl (reducer_argmax_f32_i32 (F := Ideal)) p (Host.argReduceFiber x (iotaInDim S64x100000 32 1) reducesTo_S64x100000_S64_d1 (ix1 r))).2 = BitVec.ofNat 32 k.val := by
    rintro _ rfl
    exact First.foldl hk hn _ (row_pairs x r)
  exact key _ e

end

end Cert.Proof.Soft

end
-- ==== Proof.RefPick.lean ====
/-
  The reference's choice, where the logits are real numbers: in each row the first greatest score.
-/
module

public import proofs.«01_k».proof.Proof.RefOut
public import proofs.«01_k».proof.Proof.Soft

@[expose] public section

namespace Cert.Proof.Plain

open Cert.ReferenceIdeal Cert.ReferenceIdeal.Facts₀ Cert.ReferenceIdeal.Facts
open Idealize.ShloMosaic Idealize.SL.Sem Idealize.ShloMosaic.StableHlo
open Cert.Proof.Pick Cert.Proof.Soft

noncomputable section

variable (V : Valuation τ sig (Elt Ideal))

/-- A vector of numbers over the rows, and as a column. -/
abbrev Vc : BufTy := ⟨S64, .f32⟩
abbrev Cl : BufTy := ⟨S64x1, .f32⟩

/-- The greatest of a row of real numbers is a real number. -/
theorem real_max {n : ℕ} (hn : 0 < n) (l : Fin n → ℝ) : ∃ m : ℝ, Finset.univ.fold max ⊥ (fun k => (l k : EReal)) = (m : EReal) := by
  obtain ⟨k, hk⟩ := exists_first hn fun k => (l k : EReal)
  exact ⟨l k, hk.fold_max⟩

theorem plus_at (x y : S64x100000.Idx → EReal) (j : S64x100000.Idx) : addf (F := Ideal) (φ := .f32) x y j = x j + y j := rfl

/-- The reading of an operation on two buffers, written with the buffers' own types. -/
theorem val_own {a b y : Ref sig .tc} {f : a.ty.Contents (Elt Ideal) → b.ty.Contents (Elt Ideal) → y.ty.Contents (Elt Ideal)} {pa pb py} {i : ℕ}
    (h : (line (F := Ideal))[i]? = some (StableHlo.binary a b y f pa pb py)) (hy : num y = i + 3) (ha : num a < i + 3) (hb : num b < i + 3) :
    val V (⟨y, rfl, py.1, py.2⟩ : TRef sig y.ty) = f (val V (⟨a, rfl, pa.1, pa.2⟩ : TRef sig a.ty)) (val V (⟨b, rfl, pb.1, pb.2⟩ : TRef sig b.ty)) :=
  val_binary V (a := ⟨a, rfl, pa.1, pa.2⟩) (b := ⟨b, rfl, pb.1, pb.2⟩) (y := ⟨y, rfl, py.1, py.2⟩) (f := f) (h.trans rfl) hy ha hb

/-- The greatest of a row, as the program writes it. -/
def rowTop (x : Mat.Contents (Elt Ideal)) (v : Num.Contents (Elt Ideal)) : Vc.Contents (Elt Ideal) :=
  Host.reduce (FloatOps.maximumf (F := Ideal) (φ := .f32)) x v reducesTo_S64x100000_S64_d1 h_S_

theorem top_op : (line (F := Ideal))[5]? = some (StableHlo.binary main_v3 main_cst main_v4 rowTop) := by unfold rowTop; rfl

/-- The logarithm of the softmax: the logit, shifted by one real number to the row. -/
theorem share_read (l : Fin 64 → Fin 100000 → ℝ) (hl : ∀ r v, Spec.logit (argX V) (argW V) (argB V) r v = (l r v : EReal)) (r : Fin 64) :
    ∃ c : ℝ, ∀ v, val V (buf main_v33 : TRef sig Mat) (ix2 r v) = (l r v : EReal) + (c : EReal) := by
  have c0 : val V (buf main_cst : TRef sig Num) = constant (F := Ideal) S_ .f32 0xFF800000#32 := val_nullary V (i := 4) (by rfl) (by decide)
  have e4 : val V (buf main_v4 : TRef sig Vc) = rowTop (val V (buf main_v3 : TRef sig Mat)) (val V (buf main_cst : TRef sig Num)) :=
    val_own V top_op (by decide) (by decide) (by decide)
  have c1 : val V (buf main_cst_0 : TRef sig Num) = constant (F := Ideal) S_ .f32 0xFF800000#32 := val_nullary V (i := 6) (by rfl) (by decide)
  have e5 := val_unary V (y := (buf main_v5 : TRef sig Vc)) (f := broadcastInDim S64 ![] bcast_S_S64) (i := 7) (x := (buf main_cst_0 : TRef sig Num)) (by rfl) (by decide) (by decide)
  have e6 := val_binary V (y := (buf main_v6 : TRef sig Vc)) (f := maximumf (F := Ideal) (φ := .f32)) (i := 8) (a := (buf main_v5 : TRef sig Vc)) (b := (buf main_v4 : TRef sig Vc)) (by rfl) (by decide) (by decide) (by decide)
  have e7 := val_unary V (y := (buf main_v7 : TRef sig Cl)) (f := broadcastInDim S64x1 ![0] bcast_S64_S64x1_0) (i := 9) (x := (buf main_v6 : TRef sig Vc)) (by rfl) (by decide) (by decide)
  have e8 := val_unary V (y := (buf main_v8 : TRef sig Mat)) (f := broadcastInDim S64x100000 ![0, 1] bcast_S64x1_S64x100000_0_1) (i := 10) (x := (buf main_v7 : TRef sig Cl)) (by rfl) (by decide) (by decide)
  have e9 := val_binary V (y := (buf main_v9 : TRef sig Mat)) (f := subf (F := Ideal) (φ := .f32)) (i := 11) (a := (buf main_v3 : TRef sig Mat)) (b := (buf main_v8 : TRef sig Mat)) (by rfl) (by decide) (by decide) (by decide)
  have e10 := val_unary V (y := (buf main_v10 : TRef sig Mat)) (f := Host.exp (F := Ideal) (φ := .f32)) (i := 12) (x := (buf main_v9 : TRef sig Mat)) (by rfl) (by decide) (by decide)
  have c2 : val V (buf main_cst_1 : TRef sig Num) = constant (F := Ideal) S_ .f32 0x00000000#32 := val_nullary V (i := 13) (by rfl) (by decide)
  have e11 := val_binary V (y := (buf main_v11 : TRef sig Vc)) (f := fun x v => Host.reduceAdd (F := Ideal) (φ := .f32) x v reducesTo_S64x100000_S64_d1 h_S_) (i := 14) (a := (buf main_v10 : TRef sig Mat)) (b := (buf main_cst_1 : TRef sig Num)) (by rfl) (by decide) (by decide) (by decide)
  have e12 := val_unary V (y := (buf main_v12 : TRef sig Cl)) (f := broadcastInDim S64x1 ![0] bcast_S64_S64x1_0) (i := 15) (x := (buf main_v11 : TRef sig Vc)) (by rfl) (by decide) (by decide)
  have e13 := val_unary V (y := (buf main_v13 : TRef sig Mat)) (f := broadcastInDim S64x100000 ![0, 1] bcast_S64x1_S64x100000_0_1) (i := 16) (x := (buf main_v12 : TRef sig Cl)) (by rfl) (by decide) (by decide)
  have e14 := val_binary V (y := (buf main_v14 : TRef sig Mat)) (f := Host.divf (F := Ideal) (φ := .f32)) (i := 17) (a := (buf main_v10 : TRef sig Mat)) (b := (buf main_v13 : TRef sig Mat)) (by rfl) (by decide) (by decide) (by decide)
  have e33 := val_unary V (y := (buf main_v33 : TRef sig Mat)) (f := Host.log (F := Ideal) (φ := .f32)) (i := 305) (x := (buf main_v14 : TRef sig Mat)) (by rfl) (by decide) (by decide)
  have h3 : ∀ v, val V (buf main_v3 : TRef sig Mat) (ix2 r v) = (l r v : EReal) := fun v => (logit_read V r v).trans (hl r v)
  obtain ⟨m, hm⟩ := real_max (by norm_num) (l r)
  have h6 : val V (buf main_v6 : TRef sig Vc) (ix1 r) = (m : EReal) := by
    rw [e6, e5, c1]
    refine (floor_at (val V (buf main_v4 : TRef sig Vc)) r).trans ?_
    rw [e4, c0]
    unfold rowTop
    refine (fold_at (val V (buf main_v3 : TRef sig Mat)) r).trans ?_
    rw [neg_inf_num]
    simp only [h3]
    exact hm
  have h10 : ∀ v, val V (buf main_v10 : TRef sig Mat) (ix2 r v) = Ideal.exp ((l r v : EReal) - (m : EReal)) := fun v => by
    rw [e10, e9, e8, e7]
    refine (less_at (val V (buf main_v3 : TRef sig Mat)) (val V (buf main_v6 : TRef sig Vc)) r v).trans ?_
    rw [h3, h6]
  have h11 : val V (buf main_v11 : TRef sig Vc) (ix1 r) = 0 + ∑ k : Fin 100000, Ideal.exp ((l r k : EReal) - (m : EReal)) := by
    rw [e11, c2]
    refine (total_at (val V (buf main_v10 : TRef sig Mat)) r).trans ?_
    simp only [h10]
  refine ⟨-m - Real.log (∑ k : Fin 100000, Real.exp (l r k - m)), fun v => ?_⟩
  rw [e33, e14, e13, e12]
  refine (share_at (val V (buf main_v10 : TRef sig Mat)) (val V (buf main_v11 : TRef sig Vc)) r v).trans ?_
  rw [h10, h11]
  exact log_share (by norm_num) (l r) m v

/-- The choice. -/
theorem choice_read (l : Fin 64 → Fin 100000 → ℝ) (hl : ∀ r v, Spec.logit (argX V) (argW V) (argB V) r v = (l r v : EReal)) (r : Fin 64)
    (k : Fin 100000) (hk : First (Spec.score (argX V) (argW V) (argB V) r) k) :
    val V (buf main_v35 : TRef sig ⟨S64, .i32⟩) (ix1 r) = BitVec.ofNat 32 k.val := by
  have e34 := val_binary V (y := (buf main_v34 : TRef sig Mat)) (f := addf (F := Ideal) (φ := .f32)) (i := 306) (a := (buf main_v32 : TRef sig Mat)) (b := (buf main_v33 : TRef sig Mat)) (by rfl) (by decide) (by decide) (by decide)
  have q0 : val V main_call1.v0 = iotaInDim S64x100000 32 1 := val_nullary V (i := 307) (by rfl) (by decide)
  have q1 : val V main_call1.cst = constant (F := Ideal) S_ .f32 0xFF800000#32 := val_nullary V (i := 308) (by rfl) (by decide)
  have q2 : val V main_call1.c = constantI S_ 32 0#32 := val_nullary V (i := 309) (by rfl) (by decide)
  have q := val_quaternary V (y := (buf main_v35 : TRef sig ⟨S64, .i32⟩)) (a := (buf main_v34 : TRef sig Mat)) (b := main_call1.v0) (c := main_call1.cst) (e := main_call1.c) (i := 311)
    (f := fun x y u v j => (Host.argReduce (F := Ideal) (φ := .f32) reducer_argmax_f32_i32 x y u v reducesTo_S64x100000_S64_d1 h_S_ j).2)
    (by rfl) (by decide) (by decide) (by decide) (by decide) (by decide)
  obtain ⟨c, hc⟩ := share_read V l hl r
  have h34 : ∀ v, val V (buf main_v34 : TRef sig Mat) (ix2 r v) = Spec.score (argX V) (argW V) (argB V) r v + (c : EReal) := fun v => by
    rw [e34]
    refine (plus_at (val V (buf main_v32 : TRef sig Mat)) (val V (buf main_v33 : TRef sig Mat)) (ix2 r v)).trans ?_
    rw [noise_read, hc, ← hl, Spec.add_real, Spec.score]
  rw [q, q0, q1, q2]
  exact choice_at (val V (buf main_v34 : TRef sig Mat)) r k (hk.shift c h34)

end

end Cert.Proof.Plain

end
-- ==== Proof.Real.lean ====
/-
  The precondition read: every number of the three arguments is a real number, and so is every logit.
-/
module

public import proofs.«01_k».proof.Pre_finite
public import proofs.«01_k».proof.Proof.Spec
public import proofs.«01_k».proof.Proof.Soft
public import Idealize.ShloMosaic.Lib.ReduceAll

@[expose] public section

noncomputable section

namespace Cert.Proof.Finite

open Idealize.ShloMosaic
open Cert.Pre_finite

/-- The shapes the precondition's operations take. -/
instance facts : Cert.Pre_finite.Facts where
  bcast_S_S64x1024 := by decide
  reducesTo_S64x1024_S_d0_1 := by decide
  h_S_ := by decide
  bcast_S_S1024x100000 := by decide
  reducesTo_S1024x100000_S_d0_1 := by decide
  bcast_S_S100000 := by decide
  reducesTo_S100000_S_d0 := by decide

open Cert.Pre_finite.Facts

theorem inf_num : Ideal.ofBits .f32 0x7F800000#32 = (⊤ : EReal) := by simp [Ideal.ofBits, Ideal.ieee]

/-- A number whose absolute value is below infinity is real. -/
theorem real_of_abs (x : EReal) (h : FloatOps.cmpf (F := Ideal) (φ := .f32) .olt (max x (-x)) (Ideal.ofBits .f32 0x7F800000#32) = 1#1) : ∃ a : ℝ, x = (a : EReal) := by
  rw [inf_num, Ideal.cmpf_def] at h
  unfold Ideal.cmp at h
  have hlt : max x (-x) < ⊤ := by
    by_contra hn
    simp [hn] at h
  induction x using EReal.rec with
  | bot => simp at hlt
  | coe a => exact ⟨a, rfl⟩
  | top => simp at hlt

instance : Subsingleton S_.Idx := ⟨fun a b => funext fun k => k.elim0⟩

theorem all_real {s : Shape} {axes : List (Fin s.rank)} (x : s.Idx → EReal) (hb : S_.BroadcastsInDim s ![]) (h : s.ReducesTo axes S_)
    (e : Host.reduce IntOp.andi (cmpf (F := Ideal) (φ := .f32) .olt (Host.absf x) (broadcastInDim s ![] hb (constant (F := Ideal) S_ .f32 0x7F800000#32)))
      (constantI S_ 1 1#1) h h_S_ ix0 = 1#1) (i : s.Idx) : ∃ a : ℝ, x i = (a : EReal) :=
  real_of_abs (x i) (Host.reduce_andi_all _ _ _ _ _ e i)

/-- Under the precondition every argument is real throughout. -/
theorem args_real (X : S64x1024.Idx → EReal) (W : S1024x100000.Idx → EReal) (B : S100000.Idx → EReal) (h : fn (F := Ideal) X W B = fun _ => 1#1) :
    (∀ i, ∃ a : ℝ, X i = (a : EReal)) ∧ (∀ i, ∃ a : ℝ, W i = (a : EReal)) ∧ ∀ i, ∃ a : ℝ, B i = (a : EReal) := by
  have e := congrFun h ix0
  unfold fn at e
  obtain ⟨e', e3⟩ := IntOp.andi_eq_one.mp e
  obtain ⟨e1, e2⟩ := IntOp.andi_eq_one.mp e'
  exact ⟨all_real X _ _ e1, all_real W _ _ e2, all_real B _ _ e3⟩

/-- And so is every logit. -/
theorem logit_real (X : S64x1024.Idx → EReal) (W : S1024x100000.Idx → EReal) (B : S100000.Idx → EReal) (h : fn (F := Ideal) X W B = fun _ => 1#1) :
    ∃ l : Fin 64 → Fin 100000 → ℝ, ∀ r v, Spec.logit X W B r v = (l r v : EReal) := by
  obtain ⟨hX, hW, hB⟩ := args_real X W B h
  choose x hx using hX
  choose w hw using hW
  choose b hb using hB
  refine ⟨fun r v => (∑ k : Fin 1024, x (ix2 r k) * w (ix2 k v)) + b (ix1 v), fun r v => ?_⟩
  unfold Spec.logit
  rw [EReal.coe_add, ← hb, ← Soft.sum_real]
  refine congrArg (· + _) (Finset.sum_congr rfl fun k _ => ?_)
  rw [hx, hw, EReal.coe_mul]

end Cert.Proof.Finite

end
-- ==== Proof.Equal.lean ====
/-
  The two programs' results are equal over the extended reals, when the arguments are finite.
-/
module

public import proofs.«01_k».proof.Proof.Result
public import proofs.«01_k».proof.Proof.RefPick
public import proofs.«01_k».proof.Proof.Real

@[expose] public section

noncomputable section

namespace Cert.Proof

open Idealize.ShloMosaic Idealize.ShloMosaic.TcCoe Idealize.SL.Sem
open Cert.Proof.Pick

/-! ## The reference's results -/

section
open Cert.ReferenceIdeal

variable (m : (ℓ : Loc nD τ sig) → Buf (Elt Ideal) ℓ) (c : Dev nD)

theorem ref_x : Plain.argX (StableHlo.launchContents m c) = (m ((c : Thread nD τ).loc main_arg0) : FVec Ideal S64x1024 .f32) := by
  unfold Plain.argX Plain.val
  rw [Plain.line_keeps _ (by decide)]; rfl
theorem ref_w : Plain.argW (StableHlo.launchContents m c) = (m ((c : Thread nD τ).loc main_arg1) : FVec Ideal S1024x100000 .f32) := by
  unfold Plain.argW Plain.val
  rw [Plain.line_keeps _ (by decide)]; rfl
theorem ref_b : Plain.argB (StableHlo.launchContents m c) = (m ((c : Thread nD τ).loc main_arg2) : FVec Ideal S100000 .f32) := by
  unfold Plain.argB Plain.val
  rw [Plain.line_keeps _ (by decide)]; rfl

variable (X : FVec Ideal S64x1024 .f32) (W : FVec Ideal S1024x100000 .f32) (B : FVec Ideal S100000 .f32)
  (hX : m ((c : Thread nD τ).loc main_arg0) = X) (hW : m ((c : Thread nD τ).loc main_arg1) = W) (hB : m ((c : Thread nD τ).loc main_arg2) = B)
include hX hW hB

theorem ref_logits : StableHlo.after Plain.line (StableHlo.launchContents m c) (Proc.devRef .tc main_v3)
    = (fun i => Spec.logit X W B (i 0) (i 1) : FVec Ideal S64x100000 .f32) := by
  funext i
  obtain ⟨r, v, rfl⟩ : ∃ (r : Fin 64) (v : Fin 100000), i = ix2 r v := ⟨i 0, i 1, funext fun a => match a with | ⟨0, _⟩ => rfl | ⟨1, _⟩ => rfl⟩
  refine (Plain.logit_read (StableHlo.launchContents m c) r v).trans ?_
  rw [ref_x, ref_w, ref_b, hX, hW, hB]
  rfl

theorem ref_choice (l : Fin 64 → Fin 100000 → ℝ) (hl : ∀ r v, Spec.logit X W B r v = (l r v : EReal)) (k : Fin 64 → Fin 100000)
    (hk : ∀ r, First (Spec.score X W B r) (k r)) :
    StableHlo.after Plain.line (StableHlo.launchContents m c) (Proc.devRef .tc main_v35) = (fun i => BitVec.ofNat 32 (k (i 0)).val : IVec S64 32) := by
  have eX := (ref_x m c).trans hX
  have eW := (ref_w m c).trans hW
  have eB := (ref_b m c).trans hB
  funext i
  obtain ⟨r, rfl⟩ : ∃ r : Fin 64, i = ix1 r := ⟨i 0, funext fun a => match a with | ⟨0, _⟩ => rfl⟩
  exact Plain.choice_read (StableHlo.launchContents m c) l (by rw [eX, eW, eB]; exact hl) r (k r) (by rw [eX, eW, eB]; exact hk r)

end

/-! ## The equality -/

/-- The two programs end with equal logits and equal choices. -/
theorem equal : Cert.algebraic_KernelIdeal_ReferenceIdeal_pre_finite (hKernelIdeal := Cert.KernelIdeal.Gen.facts)
    (hReferenceIdeal := Cert.ReferenceIdeal.Gen.facts) (hPre_finite := Finite.facts) := by
  intro m g m' g' hpre hargs
  choose l hl using fun c => Finite.logit_real _ _ _ (hpre c)
  choose k hk using fun (c : Dev Cert.KernelIdeal.nD) (r : Fin 64) =>
    exists_first (by decide : 0 < 100000) (Spec.score (Tiles.argX m c) (Tiles.argW m c) (Tiles.argB m c) r)
  refine ⟨fun c => (fun i => Spec.logit (Tiles.argX m c) (Tiles.argW m c) (Tiles.argB m c) (i 0) (i 1) : FVec Ideal Cert.KernelIdeal.S64x100000 .f32),
    fun c => (fun i => BitVec.ofNat 32 (k c (i 0)).val : IVec Cert.KernelIdeal.S64 32), ?_, ?_⟩
  · exact θ_run_mono (Tiles.run m g) fun r h c => ⟨(h.1 c).logits, (h.1 c).choice (k c) (hk c), (h.1 c).args⟩
  · refine θ_run_mono (Plain.run m' g') fun r h c => ?_
    obtain ⟨h0, h1, h2⟩ := hargs c
    exact ⟨(h.1 c _).trans (ref_logits m' c _ _ _ h0 h1 h2), (h.1 c _).trans (ref_choice m' c _ _ _ h0 h1 h2 (l c) (hl c) (k c) (hk c)),
      (h.1 c _).trans (Plain.line_keeps _ (by decide)), (h.1 c _).trans (Plain.line_keeps _ (by decide)), (h.1 c _).trans (Plain.line_keeps _ (by decide))⟩

end Cert.Proof

end
-- ==== Proof.lean ====
/-
  The claims of this directory, put together from the modules under Proof/.
-/
module

public import proofs.«01_k».proof.Defs
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Finite.facts, frame_bits, frame_ideal,
    fun m g _ => frame_ideal m g trivial, frame_ref, fun m g _ => frame_ref m g trivial, trivial, equal⟩

end Cert.Proof

end
